-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v257)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v257) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_inputs_in_range : Cert.Pre_inputs_in_range.Facts),
    quiescent_Kernel (hKernel := hKernel)
    ∧ quiescent_KernelIdeal (hKernelIdeal := hKernelIdeal)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
-- ==== Pre_inputs_in_range.lean ====
abbrev S32x32x128 : Shape := ⟨3, ![32, 32, 128]⟩
abbrev S4096x16x8x128 : Shape := ⟨4, ![4096, 16, 8, 128]⟩
abbrev S32x128 : Shape := ⟨2, ![32, 128]⟩
abbrev S32 : Shape := ⟨1, ![32]⟩
abbrev S4096 : Shape := ⟨1, ![4096]⟩
abbrev S_ : Shape := ⟨0, ![]⟩

class Facts : Prop where
  shapeCasts_S4096_S32x128 : S4096.ShapeCasts S32x128
  bcast_S_S32 : S_.BroadcastsInDim S32 (![] : Fin 0 → Fin S32.rank)
  reducesTo_S32_S_d0 : S32.ReducesTo [0] S_
  h_S_ : 0 < S_.numel
  bcast_S_S32x32x128 : S_.BroadcastsInDim S32x32x128 (![] : Fin 0 → Fin S32x32x128.rank)
  reducesTo_S32x32x128_S_d0_1_2 : S32x32x128.ReducesTo [0, 1, 2] S_
  bcast_S_S4096x16x8x128 : S_.BroadcastsInDim S4096x16x8x128 (![] : Fin 0 → Fin S4096x16x8x128.rank)
  reducesTo_S4096x16x8x128_S_d0_1_2_3 : S4096x16x8x128.ReducesTo [0, 1, 2, 3] S_
  reducesTo_S32x128_S_d0_1 : S32x128.ReducesTo [0, 1] S_

variable [Facts]

def fn_part1 {F : FTy → Type} [FloatOps F] (main_arg3 : IVec S32x128 32) (main_v1 : IVec S32x128 32) (main_v7 : IVec S_ 1) (main_v16 : IVec S_ 1) : IVec S_ 1 :=
  let main_v17 : IVec S32x128 1 := cmpi .eq main_arg3 main_v1
  let main_c_5 : IVec S_ 1 := constantI S_ 1 1#1
  let main_v18 : IVec S_ 1 := (fun x v => Host.reduce IntOp.andi x v reducesTo_S32x128_S_d0_1 h_S_) main_v17 main_c_5
  let main_v19 : IVec S_ 1 := andi main_v18 main_v7
  let main_v20 : IVec S_ 1 := andi main_v19 main_v16
  main_v20

def fn {F : FTy → Type} [FloatOps F] (main_arg0 : FVec F S32x32x128 .f32) (main_arg1 : FVec F S4096x16x8x128 .f32) (main_arg2 : FVec F S4096x16x8x128 .f32) (main_arg3 : IVec S32x128 32) (main_arg4 : IVec S32 32) : IVec S_ 1 :=
  let main_v0 : IVec S4096 32 := iotaInDim S4096 32 0
  let main_v1 : IVec S32x128 32 := shapeCast S32x128 main_v0 shapeCasts_S4096_S32x128
  let main_c : IVec S_ 32 := constantI S_ 32 1#32
  let main_v2 : IVec S32 32 := broadcastInDim S32 ![] bcast_S_S32 main_c
  let main_v3 : IVec S32 1 := cmpi .sge main_arg4 main_v2
  let main_c_0 : IVec S_ 32 := constantI S_ 32 2048#32
  let main_v4 : IVec S32 32 := broadcastInDim S32 ![] bcast_S_S32 main_c_0
  let main_v5 : IVec S32 1 := cmpi .sle main_arg4 main_v4
  let main_v6 : IVec S32 1 := andi main_v3 main_v5
  let main_c_1 : IVec S_ 1 := constantI S_ 1 1#1
  let main_v7 : IVec S_ 1 := (fun x v => Host.reduce IntOp.andi x v reducesTo_S32_S_d0 h_S_) main_v6 main_c_1
  let main_v8 : FVec F S32x32x128 .f32 := Host.absf main_arg0
  let main_cst : FVec F S_ .f32 := constant S_ .f32 0x7F800000#32
  let main_v9 : FVec F S32x32x128 .f32 := broadcastInDim S32x32x128 ![] bcast_S_S32x32x128 main_cst
  let main_v10 : IVec S32x32x128 1 := cmpf .olt main_v8 main_v9
  let main_c_2 : IVec S_ 1 := constantI S_ 1 1#1
  let main_v11 : IVec S_ 1 := (fun x v => Host.reduce IntOp.andi x v reducesTo_S32x32x128_S_d0_1_2 h_S_) main_v10 main_c_2
  let main_v12 : FVec F S4096x16x8x128 .f32 := Host.absf main_arg1
  let main_cst_3 : FVec F S_ .f32 := constant S_ .f32 0x7F800000#32
  let main_v13 : FVec F S4096x16x8x128 .f32 := broadcastInDim S4096x16x8x128 ![] bcast_S_S4096x16x8x128 main_cst_3
  let main_v14 : IVec S4096x16x8x128 1 := cmpf .olt main_v12 main_v13
  let main_c_4 : IVec S_ 1 := constantI S_ 1 1#1
  let main_v15 : IVec S_ 1 := (fun x v => Host.reduce IntOp.andi x v reducesTo_S4096x16x8x128_S_d0_1_2_3 h_S_) main_v14 main_c_4
  let main_v16 : IVec S_ 1 := andi main_v11 main_v15
  fn_part1 (F := F) main_arg3 main_v1 main_v7 main_v16
-- ==== Kernel.lean ====
abbrev S32x32x128 : Shape := ⟨3, ![32, 32, 128]⟩
abbrev S4096x16x8x128 : Shape := ⟨4, ![4096, 16, 8, 128]⟩
abbrev S32x128 : Shape := ⟨2, ![32, 128]⟩
abbrev S32 : Shape := ⟨1, ![32]⟩
abbrev S_ : Shape := ⟨0, ![]⟩
abbrev S1x32 : Shape := ⟨2, ![1, 32]⟩
abbrev S32x1 : Shape := ⟨2, ![32, 1]⟩
abbrev S32x32 : Shape := ⟨2, ![32, 32]⟩
abbrev S32x14 : Shape := ⟨2, ![32, 14]⟩
abbrev S32x1x1 : Shape := ⟨3, ![32, 1, 1]⟩
abbrev S1 : Shape := ⟨1, ![1]⟩
abbrev S1x1x1 : Shape := ⟨3, ![1, 1, 1]⟩
abbrev S1x14 : Shape := ⟨2, ![1, 14]⟩
abbrev S14 : Shape := ⟨1, ![14]⟩
abbrev S16x14 : Shape := ⟨2, ![16, 14]⟩
abbrev S8 : Shape := ⟨1, ![8]⟩
abbrev S1x8 : Shape := ⟨2, ![1, 8]⟩
abbrev S32x8 : Shape := ⟨2, ![32, 8]⟩
abbrev S32x32x1x128 : Shape := ⟨4, ![32, 32, 1, 128]⟩
abbrev S1x32x8x1 : Shape := ⟨4, ![1, 32, 8, 1]⟩
abbrev S32x32x8x128 : Shape := ⟨4, ![32, 32, 8, 128]⟩
abbrev S32x32x1024 : Shape := ⟨3, ![32, 32, 1024]⟩
abbrev S1024x64x1024 : Shape := ⟨3, ![1024, 64, 1024]⟩
abbrev S32x8x4x128 : Shape := ⟨4, ![32, 8, 4, 128]⟩
abbrev S1x32x1024 : Shape := ⟨3, ![1, 32, 1024]⟩
abbrev S1x64x1024 : Shape := ⟨3, ![1, 64, 1024]⟩
abbrev S1x1 : Shape := ⟨2, ![1, 1]⟩
abbrev S1x8x4x128 : Shape := ⟨4, ![1, 8, 4, 128]⟩
abbrev S32x1024 : Shape := ⟨2, ![32, 1024]⟩
abbrev S1x64 : Shape := ⟨2, ![1, 64]⟩
abbrev S64x1024 : Shape := ⟨2, ![64, 1024]⟩
abbrev S32x64 : Shape := ⟨2, ![32, 64]⟩
abbrev S4x128 : Shape := ⟨2, ![4, 128]⟩
abbrev S4x1 : Shape := ⟨2, ![4, 1]⟩
abbrev S1x1x4x128 : Shape := ⟨4, ![1, 1, 4, 128]⟩

abbrev nBuf : Space → Nat
  | .hbm => 347
  | .vmem => 60
  | .smem => 4
  | _ => 0

abbrev hbmTy0_0 (i : Nat) : BufTy := match i % 128 with
  | 0 => ⟨S32x32x128, .f32⟩
  | 1 => ⟨S4096x16x8x128, .f32⟩
  | 2 => ⟨S4096x16x8x128, .f32⟩
  | 3 => ⟨S32x128, .i32⟩
  | 4 => ⟨S32, .i32⟩
  | 5 => ⟨S_, .i32⟩
  | 6 => ⟨S32, .i32⟩
  | 7 => ⟨S_, .i32⟩
  | 8 => ⟨S_, .i32⟩
  | 9 => ⟨S32, .i32⟩
  | 10 => ⟨S32, .i32⟩
  | 11 => ⟨S32, .i32⟩
  | 12 => ⟨S_, .i32⟩
  | 13 => ⟨S32, .i32⟩
  | 14 => ⟨S32, .i1⟩
  | 15 => ⟨S32, .i32⟩
  | 16 => ⟨S32, .i32⟩
  | 17 => ⟨S_, .i32⟩
  | 18 => ⟨S32, .i32⟩
  | 19 => ⟨S32, .i1⟩
  | 20 => ⟨S32, .i1⟩
  | 21 => ⟨S_, .i32⟩
  | 22 => ⟨S32, .i32⟩
  | 23 => ⟨S32, .i32⟩
  | 24 => ⟨S32, .i32⟩
  | 25 => ⟨S32, .i32⟩
  | 26 => ⟨S1x32, .i32⟩
  | 27 => ⟨S32x1, .i32⟩
  | 28 => ⟨S32x32, .i32⟩
  | 29 => ⟨S32x32, .i32⟩
  | 30 => ⟨S32x32, .i1⟩
  | 31 => ⟨S1x32, .i32⟩
  | 32 => ⟨S32x1, .i32⟩
  | 33 => ⟨S_, .i32⟩
  | 34 => ⟨S32x1, .i32⟩
  | 35 => ⟨S32x1, .i32⟩
  | 36 => ⟨S32x32, .i32⟩
  | 37 => ⟨S32x32, .i32⟩
  | 38 => ⟨S32x32, .i1⟩
  | 39 => ⟨S1x32, .i32⟩
  | 40 => ⟨S_, .i32⟩
  | 41 => ⟨S1x32, .i32⟩
  | 42 => ⟨S1x32, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S1x32, .i32⟩
  | 50 => ⟨S1x32, .i32⟩
  | 51 => ⟨S_, .i32⟩
  | 52 => ⟨S1x32, .i32⟩
  | 53 => ⟨S1x32, .i1⟩
  | 54 => ⟨S_, .i32⟩
  | 55 => ⟨S1x32, .i32⟩
  | 56 => ⟨S1x32, .i1⟩
  | 57 => ⟨S_, .i32⟩
  | 58 => ⟨S_, .i1⟩
  | 59 => ⟨S1x32, .i1⟩
  | 60 => ⟨S1x32, .i1⟩
  | 61 => ⟨S1x32, .i1⟩
  | 62 => ⟨S1x32, .i32⟩
  | 63 => ⟨S1x32, .i32⟩
  | 64 => ⟨S1x32, .i32⟩
  | 65 => ⟨S_, .i32⟩
  | 66 => ⟨S1x32, .i32⟩
  | 67 => ⟨S1x32, .i1⟩
  | 68 => ⟨S32x32, .i1⟩
  | 69 => ⟨S32x32, .i1⟩
  | 70 => ⟨S32x32, .i1⟩
  | 71 => ⟨S1x32, .i32⟩
  | 72 => ⟨S1x32, .i32⟩
  | 73 => ⟨S_, .i32⟩
  | 74 => ⟨S1x32, .i32⟩
  | 75 => ⟨S1x32, .i32⟩
  | 76 => ⟨S32x32, .i32⟩
  | 77 => ⟨S32x32, .i32⟩
  | 78 => ⟨S32x32, .i32⟩
  | 79 => ⟨S32x32, .i32⟩
  | 80 => ⟨S32x14, .i32⟩
  | 81 => ⟨S_, .i32⟩
  | 82 => ⟨S32x14, .i32⟩
  | 83 => ⟨S32x14, .i1⟩
  | 84 => ⟨S32x14, .i32⟩
  | 85 => ⟨S_, .i32⟩
  | 86 => ⟨S_, .i32⟩
  | 87 => ⟨S32, .i32⟩
  | 88 => ⟨S32, .i32⟩
  | 89 => ⟨S32x1, .i32⟩
  | 90 => ⟨S_, .i32⟩
  | 91 => ⟨S32x1, .i32⟩
  | 92 => ⟨S32x1, .i1⟩
  | 93 => ⟨S_, .i32⟩
  | 94 => ⟨S32x1, .i32⟩
  | 95 => ⟨S32x1, .i32⟩
  | 96 => ⟨S32x1, .i32⟩
  | 97 => ⟨S32x1x1, .i32⟩
  | 98 => ⟨S1, .i32⟩
  | 99 => ⟨S_, .i32⟩
  | 100 => ⟨S32x1x1, .i32⟩
  | 101 => ⟨S32x1x1, .i1⟩
  | 102 => ⟨S1x1x1, .i32⟩
  | 103 => ⟨S32x1x1, .i32⟩
  | 104 => ⟨S32x1x1, .i1⟩
  | 105 => ⟨S32x1x1, .i1⟩
  | 106 => ⟨S_, .i1⟩
  | 107 => ⟨S32x1, .i1⟩
  | 108 => ⟨S32x1, .i32⟩
  | 109 => ⟨S_, .i32⟩
  | 110 => ⟨S32x1, .i32⟩
  | 111 => ⟨S32x1, .i32⟩
  | 112 => ⟨S32x14, .i32⟩
  | 113 => ⟨S32, .i32⟩
  | 114 => ⟨S32x1, .i32⟩
  | 115 => ⟨S_, .i32⟩
  | 116 => ⟨S32x1, .i32⟩
  | 117 => ⟨S32x1, .i32⟩
  | 118 => ⟨S32x14, .i32⟩
  | 119 => ⟨S32x14, .i32⟩
  | 120 => ⟨S1x14, .i32⟩
  | 121 => ⟨S14, .i32⟩
  | 122 => ⟨S1x14, .i1⟩
  | 123 => ⟨S14, .i1⟩
  | 124 => ⟨S1x14, .i32⟩
  | 125 => ⟨S14, .i32⟩
  | 126 => ⟨S14, .i32⟩
  | 127 => ⟨S1x14, .i1⟩
  | _ => ⟨S32x32x128, .f32⟩

abbrev hbmTy0_1 (i : Nat) : BufTy := match i % 128 with
  | 0 => ⟨S14, .i1⟩
  | 1 => ⟨S1x14, .i32⟩
  | 2 => ⟨S14, .i32⟩
  | 3 => ⟨S14, .i32⟩
  | 4 => ⟨S1x14, .i1⟩
  | 5 => ⟨S14, .i1⟩
  | 6 => ⟨S1x14, .i32⟩
  | 7 => ⟨S14, .i32⟩
  | 8 => ⟨S14, .i32⟩
  | 9 => ⟨S1x14, .i1⟩
  | 10 => ⟨S14, .i1⟩
  | 11 => ⟨S1x14, .i32⟩
  | 12 => ⟨S14, .i32⟩
  | 13 => ⟨S14, .i32⟩
  | 14 => ⟨S1x14, .i1⟩
  | 15 => ⟨S14, .i1⟩
  | 16 => ⟨S1x14, .i32⟩
  | 17 => ⟨S14, .i32⟩
  | 18 => ⟨S14, .i32⟩
  | 19 => ⟨S1x14, .i1⟩
  | 20 => ⟨S14, .i1⟩
  | 21 => ⟨S1x14, .i32⟩
  | 22 => ⟨S14, .i32⟩
  | 23 => ⟨S14, .i32⟩
  | 24 => ⟨S1x14, .i1⟩
  | 25 => ⟨S14, .i1⟩
  | 26 => ⟨S1x14, .i32⟩
  | 27 => ⟨S14, .i32⟩
  | 28 => ⟨S14, .i32⟩
  | 29 => ⟨S1x14, .i1⟩
  | 30 => ⟨S14, .i1⟩
  | 31 => ⟨S1x14, .i32⟩
  | 32 => ⟨S14, .i32⟩
  | 33 => ⟨S14, .i32⟩
  | 34 => ⟨S1x14, .i1⟩
  | 35 => ⟨S14, .i1⟩
  | 36 => ⟨S1x14, .i32⟩
  | 37 => ⟨S14, .i32⟩
  | 38 => ⟨S14, .i32⟩
  | 39 => ⟨S1x14, .i1⟩
  | 40 => ⟨S14, .i1⟩
  | 41 => ⟨S1x14, .i32⟩
  | 42 => ⟨S14, .i32⟩
  | 43 => ⟨S14, .i32⟩
  | 44 => ⟨S1x14, .i1⟩
  | 45 => ⟨S14, .i1⟩
  | 46 => ⟨S1x14, .i32⟩
  | 47 => ⟨S14, .i32⟩
  | 48 => ⟨S14, .i32⟩
  | 49 => ⟨S1x14, .i1⟩
  | 50 => ⟨S14, .i1⟩
  | 51 => ⟨S1x14, .i32⟩
  | 52 => ⟨S14, .i32⟩
  | 53 => ⟨S14, .i32⟩
  | 54 => ⟨S1x14, .i1⟩
  | 55 => ⟨S14, .i1⟩
  | 56 => ⟨S1x14, .i32⟩
  | 57 => ⟨S14, .i32⟩
  | 58 => ⟨S14, .i32⟩
  | 59 => ⟨S1x14, .i1⟩
  | 60 => ⟨S14, .i1⟩
  | 61 => ⟨S1x14, .i32⟩
  | 62 => ⟨S14, .i32⟩
  | 63 => ⟨S14, .i32⟩
  | 64 => ⟨S1x14, .i1⟩
  | 65 => ⟨S14, .i1⟩
  | 66 => ⟨S1x14, .i32⟩
  | 67 => ⟨S14, .i32⟩
  | 68 => ⟨S14, .i32⟩
  | 69 => ⟨S1x14, .i1⟩
  | 70 => ⟨S14, .i1⟩
  | 71 => ⟨S1x14, .i32⟩
  | 72 => ⟨S14, .i32⟩
  | 73 => ⟨S14, .i32⟩
  | 74 => ⟨S1x14, .i1⟩
  | 75 => ⟨S14, .i1⟩
  | 76 => ⟨S1x14, .i32⟩
  | 77 => ⟨S14, .i32⟩
  | 78 => ⟨S14, .i32⟩
  | 79 => ⟨S1x14, .i1⟩
  | 80 => ⟨S14, .i1⟩
  | 81 => ⟨S1x14, .i32⟩
  | 82 => ⟨S14, .i32⟩
  | 83 => ⟨S14, .i32⟩
  | 84 => ⟨S1x14, .i1⟩
  | 85 => ⟨S14, .i1⟩
  | 86 => ⟨S1x14, .i32⟩
  | 87 => ⟨S14, .i32⟩
  | 88 => ⟨S14, .i32⟩
  | 89 => ⟨S1x14, .i1⟩
  | 90 => ⟨S14, .i1⟩
  | 91 => ⟨S1x14, .i32⟩
  | 92 => ⟨S14, .i32⟩
  | 93 => ⟨S14, .i32⟩
  | 94 => ⟨S1x14, .i1⟩
  | 95 => ⟨S14, .i1⟩
  | 96 => ⟨S1x14, .i32⟩
  | 97 => ⟨S14, .i32⟩
  | 98 => ⟨S14, .i32⟩
  | 99 => ⟨S1x14, .i1⟩
  | 100 => ⟨S14, .i1⟩
  | 101 => ⟨S1x14, .i32⟩
  | 102 => ⟨S14, .i32⟩
  | 103 => ⟨S14, .i32⟩
  | 104 => ⟨S1x14, .i1⟩
  | 105 => ⟨S14, .i1⟩
  | 106 => ⟨S1x14, .i32⟩
  | 107 => ⟨S14, .i32⟩
  | 108 => ⟨S14, .i32⟩
  | 109 => ⟨S1x14, .i1⟩
  | 110 => ⟨S14, .i1⟩
  | 111 => ⟨S1x14, .i32⟩
  | 112 => ⟨S14, .i32⟩
  | 113 => ⟨S14, .i32⟩
  | 114 => ⟨S1x14, .i1⟩
  | 115 => ⟨S14, .i1⟩
  | 116 => ⟨S1x14, .i32⟩
  | 117 => ⟨S14, .i32⟩
  | 118 => ⟨S14, .i32⟩
  | 119 => ⟨S1x14, .i1⟩
  | 120 => ⟨S14, .i1⟩
  | 121 => ⟨S1x14, .i32⟩
  | 122 => ⟨S14, .i32⟩
  | 123 => ⟨S14, .i32⟩
  | 124 => ⟨S1x14, .i1⟩
  | 125 => ⟨S14, .i1⟩
  | 126 => ⟨S1x14, .i32⟩
  | 127 => ⟨S14, .i32⟩
  | _ => ⟨S32x32x128, .f32⟩

abbrev hbmTy0_2 (i : Nat) : BufTy := match i % 128 with
  | 0 => ⟨S14, .i32⟩
  | 1 => ⟨S1x14, .i1⟩
  | 2 => ⟨S14, .i1⟩
  | 3 => ⟨S1x14, .i32⟩
  | 4 => ⟨S14, .i32⟩
  | 5 => ⟨S14, .i32⟩
  | 6 => ⟨S1x14, .i1⟩
  | 7 => ⟨S14, .i1⟩
  | 8 => ⟨S1x14, .i32⟩
  | 9 => ⟨S14, .i32⟩
  | 10 => ⟨S14, .i32⟩
  | 11 => ⟨S1x14, .i1⟩
  | 12 => ⟨S14, .i1⟩
  | 13 => ⟨S1x14, .i32⟩
  | 14 => ⟨S14, .i32⟩
  | 15 => ⟨S14, .i32⟩
  | 16 => ⟨S1x14, .i1⟩
  | 17 => ⟨S14, .i1⟩
  | 18 => ⟨S1x14, .i32⟩
  | 19 => ⟨S14, .i32⟩
  | 20 => ⟨S14, .i32⟩
  | 21 => ⟨S1x14, .i32⟩
  | 22 => ⟨S1x14, .i32⟩
  | 23 => ⟨S1x14, .i32⟩
  | 24 => ⟨S1x14, .i32⟩
  | 25 => ⟨S1x14, .i32⟩
  | 26 => ⟨S1x14, .i32⟩
  | 27 => ⟨S1x14, .i32⟩
  | 28 => ⟨S1x14, .i32⟩
  | 29 => ⟨S1x14, .i32⟩
  | 30 => ⟨S1x14, .i32⟩
  | 31 => ⟨S1x14, .i32⟩
  | 32 => ⟨S1x14, .i32⟩
  | 33 => ⟨S1x14, .i32⟩
  | 34 => ⟨S1x14, .i32⟩
  | 35 => ⟨S1x14, .i32⟩
  | 36 => ⟨S1x14, .i32⟩
  | 37 => ⟨S1x14, .i32⟩
  | 38 => ⟨S1x14, .i32⟩
  | 39 => ⟨S1x14, .i32⟩
  | 40 => ⟨S1x14, .i32⟩
  | 41 => ⟨S1x14, .i32⟩
  | 42 => ⟨S1x14, .i32⟩
  | 43 => ⟨S1x14, .i32⟩
  | 44 => ⟨S1x14, .i32⟩
  | 45 => ⟨S1x14, .i32⟩
  | 46 => ⟨S1x14, .i32⟩
  | 47 => ⟨S1x14, .i32⟩
  | 48 => ⟨S1x14, .i32⟩
  | 49 => ⟨S1x14, .i32⟩
  | 50 => ⟨S1x14, .i32⟩
  | 51 => ⟨S1x14, .i32⟩
  | 52 => ⟨S1x14, .i32⟩
  | 53 => ⟨S16x14, .i32⟩
  | 54 => ⟨S16x14, .i32⟩
  | 55 => ⟨S32, .i32⟩
  | 56 => ⟨S32x1, .i32⟩
  | 57 => ⟨S_, .i32⟩
  | 58 => ⟨S_, .i32⟩
  | 59 => ⟨S32x1, .i32⟩
  | 60 => ⟨S32x1, .i32⟩
  | 61 => ⟨S32x1, .i32⟩
  | 62 => ⟨S_, .i32⟩
  | 63 => ⟨S32x1, .i32⟩
  | 64 => ⟨S32x1, .i1⟩
  | 65 => ⟨S32x1, .i32⟩
  | 66 => ⟨S32x1, .i32⟩
  | 67 => ⟨S_, .i32⟩
  | 68 => ⟨S32x1, .i32⟩
  | 69 => ⟨S32x1, .i1⟩
  | 70 => ⟨S32x1, .i1⟩
  | 71 => ⟨S_, .i32⟩
  | 72 => ⟨S32x1, .i32⟩
  | 73 => ⟨S32x1, .i32⟩
  | 74 => ⟨S32x1, .i32⟩
  | 75 => ⟨S8, .i32⟩
  | 76 => ⟨S1x8, .i32⟩
  | 77 => ⟨S32x8, .i32⟩
  | 78 => ⟨S32x8, .i32⟩
  | 79 => ⟨S32x8, .i1⟩
  | 80 => ⟨S32x8, .f32⟩
  | 81 => ⟨S32x32x1x128, .f32⟩
  | 82 => ⟨S1x32x8x1, .f32⟩
  | 83 => ⟨S32x32x8x128, .f32⟩
  | 84 => ⟨S32x32x8x128, .f32⟩
  | 85 => ⟨S32x32x8x128, .f32⟩
  | 86 => ⟨S32x32x1024, .f32⟩
  | 87 => ⟨S1024x64x1024, .f32⟩
  | 88 => ⟨S1024x64x1024, .f32⟩
  | 89 => ⟨S32x8x4x128, .f32⟩
  | 90 => ⟨S32x32x128, .f32⟩
  | _ => ⟨S32x32x128, .f32⟩

abbrev hbmTy (i : Nat) : BufTy := match i / 128 with
  | 0 => hbmTy0_0 i
  | 1 => hbmTy0_1 i
  | 2 => hbmTy0_2 i
  | _ => ⟨S32x32x128, .f32⟩

abbrev bufTy : (tb : Table) → Fin (tcTables nBuf tb) → BufTy
  | .hbm, ⟨i, _⟩ => hbmTy i
  | .local _ .vmem, ⟨0, _⟩ => ⟨S1x32x1024, .f32⟩
  | .local _ .vmem, ⟨1, _⟩ => ⟨S1x32x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | .local _ .vmem, ⟨16, _⟩ => ⟨S1x64x1024, .f32⟩
  | .local _ .vmem, ⟨17, _⟩ => ⟨S1x64x1024, .f32⟩
  | .local _ .vmem, ⟨18, _⟩ => ⟨S1x64x1024, .f32⟩
  | .local _ .vmem, ⟨19, _⟩ => ⟨S1x64x1024, .f32⟩
  | .local _ .vmem, ⟨20, _⟩ => ⟨S1x64x1024, .f32⟩
  | .local _ .vmem, ⟨21, _⟩ => ⟨S1x64x1024, .f32⟩
  | .local _ .vmem, ⟨22, _⟩ => ⟨S1x64x1024, .f32⟩
  | .local _ .vmem, ⟨23, _⟩ => ⟨S1x64x1024, .f32⟩
  | .local _ .vmem, ⟨24, _⟩ => ⟨S1x64x1024, .f32⟩
  | .local _ .vmem, ⟨25, _⟩ => ⟨S1x64x1024, .f32⟩
  | .local _ .vmem, ⟨26, _⟩ => ⟨S1x64x1024, .f32⟩
  | .local _ .vmem, ⟨27, _⟩ => ⟨S1x64x1024, .f32⟩
  | .local _ .vmem, ⟨28, _⟩ => ⟨S1x64x1024, .f32⟩
  | .local _ .vmem, ⟨29, _⟩ => ⟨S1x64x1024, .f32⟩
  | .local _ .vmem, ⟨30, _⟩ => ⟨S1x64x1024, .f32⟩
  | .local _ .vmem, ⟨31, _⟩ => ⟨S1x64x1024, .f32⟩
  | .local _ .vmem, ⟨32, _⟩ => ⟨S1x64x1024, .f32⟩
  | .local _ .vmem, ⟨33, _⟩ => ⟨S1x64x1024, .f32⟩
  | .local _ .vmem, ⟨34, _⟩ => ⟨S1x64x1024, .f32⟩
  | .local _ .vmem, ⟨35, _⟩ => ⟨S1x64x1024, .f32⟩
  | .local _ .vmem, ⟨36, _⟩ => ⟨S1x64x1024, .f32⟩
  | .local _ .vmem, ⟨37, _⟩ => ⟨S1x64x1024, .f32⟩
  | .local _ .vmem, ⟨38, _⟩ => ⟨S1x64x1024, .f32⟩
  | .local _ .vmem, ⟨39, _⟩ => ⟨S1x64x1024, .f32⟩
  | .local _ .vmem, ⟨40, _⟩ => ⟨S1x64x1024, .f32⟩
  | .local _ .vmem, ⟨41, _⟩ => ⟨S1x64x1024, .f32⟩
  | .local _ .vmem, ⟨42, _⟩ => ⟨S1x64x1024, .f32⟩
  | .local _ .vmem, ⟨43, _⟩ => ⟨S1x64x1024, .f32⟩
  | .local _ .vmem, ⟨44, _⟩ => ⟨S1x64x1024, .f32⟩
  | .local _ .vmem, ⟨45, _⟩ => ⟨S1x64x1024, .f32⟩
  | .local _ .vmem, ⟨46, _⟩ => ⟨S1x64x1024, .f32⟩
  | .local _ .vmem, ⟨47, _⟩ => ⟨S1x64x1024, .f32⟩
  | .local _ .vmem, ⟨48, _⟩ => ⟨S1x64x1024, .f32⟩
  | .local _ .vmem, ⟨49, _⟩ => ⟨S1x64x1024, .f32⟩
  | .local _ .vmem, ⟨50, _⟩ => ⟨S1x64x1024, .f32⟩
  | .local _ .vmem, ⟨51, _⟩ => ⟨S1x64x1024, .f32⟩
  | .local _ .vmem, ⟨52, _⟩ => ⟨S1x64x1024, .f32⟩
  | .local _ .vmem, ⟨53, _⟩ => ⟨S1x64x1024, .f32⟩
  | .local _ .vmem, ⟨54, _⟩ => ⟨S1x64x1024, .f32⟩
  | .local _ .vmem, ⟨55, _⟩ => ⟨S1x64x1024, .f32⟩
  | .local _ .vmem, ⟨56, _⟩ => ⟨S1x64x1024, .f32⟩
  | .local _ .vmem, ⟨57, _⟩ => ⟨S1x64x1024, .f32⟩
  | .local _ .vmem, ⟨58, _⟩ => ⟨S1x8x4x128, .f32⟩
  | .local _ .vmem, ⟨59, _⟩ => ⟨S1x8x4x128, .f32⟩
  | .local _ .smem, ⟨0, _⟩ => ⟨S32x14, .i32⟩
  | .local _ .smem, ⟨1, _⟩ => ⟨S32x14, .i32⟩
  | .local _ .smem, ⟨2, _⟩ => ⟨S32, .i32⟩
  | .local _ .smem, ⟨3, _⟩ => ⟨S32, .i32⟩
  | _, _ => ⟨S32x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c_2 : Ref sig .tc := ⟨.hbm, 40, rfl⟩
abbrev main_v17 : Ref sig .tc := ⟨.hbm, 41, rfl⟩
abbrev main_v18 : Ref sig .tc := ⟨.hbm, 42, rfl⟩
abbrev main_c_3 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v19 : Ref sig .tc := ⟨.hbm, 64, rfl⟩
abbrev main_c_4 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_c_5 : Ref sig .tc := ⟨.hbm, 73, rfl⟩
abbrev main_v27 : Ref sig .tc := ⟨.hbm, 74, rfl⟩
abbrev main_v28 : Ref sig .tc := ⟨.hbm, 75, rfl⟩
abbrev main_call2_v0 : Ref sig .tc := ⟨.hbm, 76, rfl⟩
abbrev main_call2_v1 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_c_6 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_c_7 : Ref sig .tc := ⟨.hbm, 85, rfl⟩
abbrev main_c_8 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_call4_c : Ref sig .tc := ⟨.hbm, 90, rfl⟩
abbrev main_call4_v0 : Ref sig .tc := ⟨.hbm, 91, rfl⟩
abbrev main_call4_v1 : Ref sig .tc := ⟨.hbm, 92, rfl⟩
abbrev main_call4_c_0 : Ref sig .tc := ⟨.hbm, 93, rfl⟩
abbrev main_call4_v2 : Ref sig .tc := ⟨.hbm, 94, rfl⟩
abbrev main_call4_v3 : Ref sig .tc := ⟨.hbm, 95, rfl⟩
abbrev main_call4_v4 : Ref sig .tc := ⟨.hbm, 96, rfl⟩
abbrev main_call4_v5 : Ref sig .tc := ⟨.hbm, 97, rfl⟩
abbrev main_call4_c_1 : Ref sig .tc := ⟨.hbm, 98, rfl⟩
abbrev main_call4_c_2 : Ref sig .tc := ⟨.hbm, 99, rfl⟩
abbrev main_call4_v6 : Ref sig .tc := ⟨.hbm, 100, rfl⟩
abbrev main_call4_v7 : Ref sig .tc := ⟨.hbm, 101, rfl⟩
abbrev main_call4_v8 : Ref sig .tc := ⟨.hbm, 102, rfl⟩
abbrev main_call4_v9 : Ref sig .tc := ⟨.hbm, 103, rfl⟩
abbrev main_call4_v10 : Ref sig .tc := ⟨.hbm, 104, rfl⟩
abbrev main_call4_v11 : Ref sig .tc := ⟨.hbm, 105, rfl⟩
abbrev main_call4_c_3 : Ref sig .tc := ⟨.hbm, 106, rfl⟩
abbrev main_call4_v12 : Ref sig .tc := ⟨.hbm, 107, rfl⟩
abbrev main_call4_v13 : Ref sig .tc := ⟨.hbm, 108, rfl⟩
abbrev main_call4_c_4 : Ref sig .tc := ⟨.hbm, 109, rfl⟩
abbrev main_call4_v14 : Ref sig .tc := ⟨.hbm, 110, rfl⟩
abbrev main_v39 : Ref sig .tc := ⟨.hbm, 111, rfl⟩
abbrev main_call5_v0 : Ref sig .tc := ⟨.hbm, 112, rfl⟩
abbrev main_v41 : Ref sig .tc := ⟨.hbm, 113, rfl⟩
abbrev main_v42 : Ref sig .tc := ⟨.hbm, 114, rfl⟩
abbrev main_c_9 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_v222 : Ref sig .tc := ⟨.hbm, 295, rfl⟩
abbrev main_v223 : Ref sig .tc := ⟨.hbm, 296, rfl⟩
abbrev main_v224 : Ref sig .tc := ⟨.hbm, 297, rfl⟩
abbrev main_v225 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_v229 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_v233 : Ref sig .tc := ⟨.hbm, 306, rfl⟩
abbrev main_v234 : Ref sig .tc := ⟨.hbm, 307, rfl⟩
abbrev main_v235 : Ref sig .tc := ⟨.hbm, 308, rfl⟩
abbrev main_v236 : Ref sig .tc := ⟨.hbm, 309, rfl⟩
abbrev main_v237 : Ref sig .tc := ⟨.hbm, 310, rfl⟩
abbrev main_v239 : Ref sig .tc := ⟨.hbm, 311, rfl⟩
abbrev main_v240 : Ref sig .tc := ⟨.hbm, 312, rfl⟩
abbrev main_c_10 : Ref sig .tc := ⟨.hbm, 313, rfl⟩
abbrev main_call37_v0 : Ref sig .tc := ⟨.hbm, 314, rfl⟩
abbrev main_call37_v1 : Ref sig .tc := ⟨.hbm, 315, rfl⟩
abbrev main_call37_v2 : Ref sig .tc := ⟨.hbm, 316, rfl⟩
abbrev main_call37_v3 : Ref sig .tc := ⟨.hbm, 317, rfl⟩
abbrev main_call37_v4 : Ref sig .tc := ⟨.hbm, 318, rfl⟩
abbrev main_call37_v5 : Ref sig .tc := ⟨.hbm, 319, rfl⟩
abbrev main_call37_v6 : Ref sig .tc := ⟨.hbm, 320, rfl⟩
abbrev main_call37_v7 : Ref sig .tc := ⟨.hbm, 321, rfl⟩
abbrev main_call37_v8 : Ref sig .tc := ⟨.hbm, 322, rfl⟩
abbrev main_call37_c : Ref sig .tc := ⟨.hbm, 323, rfl⟩
abbrev main_call37_v9 : Ref sig .tc := ⟨.hbm, 324, rfl⟩
abbrev main_call37_v10 : Ref sig .tc := ⟨.hbm, 325, rfl⟩
abbrev main_call37_v11 : Ref sig .tc := ⟨.hbm, 326, rfl⟩
abbrev main_call37_c_0 : Ref sig .tc := ⟨.hbm, 327, rfl⟩
abbrev main_call37_v12 : Ref sig .tc := ⟨.hbm, 328, rfl⟩
abbrev main_call37_v13 : Ref sig .tc := ⟨.hbm, 329, rfl⟩
abbrev main_v241 : Ref sig .tc := ⟨.hbm, 330, rfl⟩
abbrev main_v242 : Ref sig .tc := ⟨.hbm, 331, rfl⟩
abbrev main_v243 : Ref sig .tc := ⟨.hbm, 332, rfl⟩
abbrev main_v244 : Ref sig .tc := ⟨.hbm, 333, rfl⟩
abbrev main_v245 : Ref sig .tc := ⟨.hbm, 334, rfl⟩
abbrev main_v246 : Ref sig .tc := ⟨.hbm, 335, rfl⟩
abbrev main_v247 : Ref sig .tc := ⟨.hbm, 336, rfl⟩
abbrev main_v248 : Ref sig .tc := ⟨.hbm, 337, rfl⟩
abbrev main_v249 : Ref sig .tc := ⟨.hbm, 338, rfl⟩
abbrev main_v250 : Ref sig .tc := ⟨.hbm, 339, rfl⟩
abbrev main_v251 : Ref sig .tc := ⟨.hbm, 340, rfl⟩
abbrev main_v252 : Ref sig .tc := ⟨.hbm, 341, rfl⟩
abbrev main_v253 : Ref sig .tc := ⟨.hbm, 342, rfl⟩
abbrev main_v254 : Ref sig .tc := ⟨.hbm, 343, rfl⟩
abbrev main_v255 : Ref sig .tc := ⟨.hbm, 344, rfl⟩
abbrev main_v256 : Ref sig .tc := ⟨.hbm, 345, rfl⟩
abbrev main_v257 : Ref sig .tc := ⟨.hbm, 346, rfl⟩
abbrev main_v238 : Ref sig .tc := ⟨.smem, 0, rfl⟩
abbrev main_v40 : Ref sig .tc := ⟨.smem, 1, rfl⟩
abbrev main_v35 : Ref sig .tc := ⟨.smem, 2, rfl⟩
abbrev main_v1 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59

abbrev nD : Nat := 1
abbrev τ : Topo := Topo.v7x

variable {F : FTy → Type} [FloatOps F]

abbrev grid0 : Pipeline.Grid := ⟨1, ![32], ![false]⟩

abbrev pre0 : Pipeline.Prefetch sig := ⟨4, ![main_v238.idx, main_v40.idx, main_v35.idx, main_v1.idx], fun | 0 => main_v238.names | 1 => main_v40.names | 2 => main_v35.names | 3 => main_v1.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v0 : Index := Scalar.indexCast arg0
  let c1 : Index := 1#32
  ![v0.toNat, 1]
def k0_off3 (i : grid0.Coords) : Fin 2 → Nat :=
  let arg0 : BitVec 32 := BitVec.ofNat 32 (i 0).val
  let v0 : Index := Scalar.indexCast arg0
  let c2 : Index := 2#32
  ![v0.toNat, 2]
def k0_off4 (i : grid0.Coords) : Fin 2 → Nat :=
  let arg0 : BitVec 32 := BitVec.ofNat 32 (i 0).val
  let v0 : Index := Scalar.indexCast arg0
  let c3 : Index := 3#32
  ![v0.toNat, 3]
def k0_off5 (i : grid0.Coords) : Fin 2 → Nat :=
  let arg0 : BitVec 32 := BitVec.ofNat 32 (i 0).val
  let v0 : Index := Scalar.indexCast arg0
  let c4 : Index := 4#32
  ![v0.toNat, 4]
def k0_off6 (i : grid0.Coords) : Fin 2 → Nat :=
  let arg0 : BitVec 32 := BitVec.ofNat 32 (i 0).val
  let v0 : Index := Scalar.indexCast arg0
  let c5 : Index := 5#32
  ![v0.toNat, 5]
def k0_off7 (i : grid0.Coords) : Fin 2 → Nat :=
  let arg0 : BitVec 32 := BitVec.ofNat 32 (i 0).val
  let v0 : Index := Scalar.indexCast arg0
  let c6 : Index := 6#32
  ![v0.toNat, 6]
def k0_off8 (i : grid0.Coords) : Fin 2 → Nat :=
  let arg0 : BitVec 32 := BitVec.ofNat 32 (i 0).val
  let v0 : Index := Scalar.indexCast arg0
  let c7 : Index := 7#32
  ![v0.toNat, 7]
def k0_off9 (i : grid0.Coords) : Fin 2 → Nat :=
  let arg0 : BitVec 32 := BitVec.ofNat 32 (i 0).val
  let v0 : Index := Scalar.indexCast arg0
  let c8 : Index := 8#32
  ![v0.toNat, 8]
def k0_off10 (i : grid0.Coords) : Fin 2 → Nat :=
  let arg0 : BitVec 32 := BitVec.ofNat 32 (i 0).val
  let v0 : Index := Scalar.indexCast arg0
  let c9 : Index := 9#32
  ![v0.toNat, 9]
def k0_off11 (i : grid0.Coords) : Fin 2 → Nat :=
  let arg0 : BitVec 32 := BitVec.ofNat 32 (i 0).val
  let v0 : Index := Scalar.indexCast arg0
  let c10 : Index := 10#32
  ![v0.toNat, 10]
def k0_off12 (i : grid0.Coords) : Fin 2 → Nat :=
  let arg0 : BitVec 32 := BitVec.ofNat 32 (i 0).val
  let v0 : Index := Scalar.indexCast arg0
  let c11 : Index := 11#32
  ![v0.toNat, 11]
def k0_off13 (i : grid0.Coords) : Fin 2 → Nat :=
  let arg0 : BitVec 32 := BitVec.ofNat 32 (i 0).val
  let v0 : Index := Scalar.indexCast arg0
  let c12 : Index := 12#32
  ![v0.toNat, 12]
def k0_off14 (i : grid0.Coords) : Fin 2 → Nat :=
  let arg0 : BitVec 32 := BitVec.ofNat 32 (i 0).val
  let v0 : Index := Scalar.indexCast arg0
  let c13 : Index := 13#32
  ![v0.toNat, 13]
def k0_off15 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1x1.size a ≤ S32x14.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c0 : Index := 0#32
  let v1 : BitVec 32 := pf.at 0 (Rect.unit (s := S32x14) ![v0.toNat, 0] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_2 (k0_off2_inb : ∀ i : grid0.Coords, ∀ a, (k0_off2 i) a + S1x1.size a ≤ S32x14.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c1 : Index := 1#32
  let v1 : BitVec 32 := pf.at 0 (Rect.unit (s := S32x14) ![v0.toNat, 1] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_3 (k0_off3_inb : ∀ i : grid0.Coords, ∀ a, (k0_off3 i) a + S1x1.size a ≤ S32x14.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c2 : Index := 2#32
  let v1 : BitVec 32 := pf.at 0 (Rect.unit (s := S32x14) ![v0.toNat, 2] S1x1.size (k0_off3_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_4 (k0_off4_inb : ∀ i : grid0.Coords, ∀ a, (k0_off4 i) a + S1x1.size a ≤ S32x14.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c3 : Index := 3#32
  let v1 : BitVec 32 := pf.at 0 (Rect.unit (s := S32x14) ![v0.toNat, 3] S1x1.size (k0_off4_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_5 (k0_off5_inb : ∀ i : grid0.Coords, ∀ a, (k0_off5 i) a + S1x1.size a ≤ S32x14.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c4 : Index := 4#32
  let v1 : BitVec 32 := pf.at 0 (Rect.unit (s := S32x14) ![v0.toNat, 4] S1x1.size (k0_off5_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_6 (k0_off6_inb : ∀ i : grid0.Coords, ∀ a, (k0_off6 i) a + S1x1.size a ≤ S32x14.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c5 : Index := 5#32
  let v1 : BitVec 32 := pf.at 0 (Rect.unit (s := S32x14) ![v0.toNat, 5] S1x1.size (k0_off6_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_7 (k0_off7_inb : ∀ i : grid0.Coords, ∀ a, (k0_off7 i) a + S1x1.size a ≤ S32x14.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c6 : Index := 6#32
  let v1 : BitVec 32 := pf.at 0 (Rect.unit (s := S32x14) ![v0.toNat, 6] S1x1.size (k0_off7_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_8 (k0_off8_inb : ∀ i : grid0.Coords, ∀ a, (k0_off8 i) a + S1x1.size a ≤ S32x14.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c7 : Index := 7#32
  let v1 : BitVec 32 := pf.at 0 (Rect.unit (s := S32x14) ![v0.toNat, 7] S1x1.size (k0_off8_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_9 (k0_off9_inb : ∀ i : grid0.Coords, ∀ a, (k0_off9 i) a + S1x1.size a ≤ S32x14.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c8 : Index := 8#32
  let v1 : BitVec 32 := pf.at 0 (Rect.unit (s := S32x14) ![v0.toNat, 8] S1x1.size (k0_off9_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_10 (k0_off10_inb : ∀ i : grid0.Coords, ∀ a, (k0_off10 i) a + S1x1.size a ≤ S32x14.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c9 : Index := 9#32
  let v1 : BitVec 32 := pf.at 0 (Rect.unit (s := S32x14) ![v0.toNat, 9] S1x1.size (k0_off10_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_11 (k0_off11_inb : ∀ i : grid0.Coords, ∀ a, (k0_off11 i) a + S1x1.size a ≤ S32x14.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c10 : Index := 10#32
  let v1 : BitVec 32 := pf.at 0 (Rect.unit (s := S32x14) ![v0.toNat, 10] S1x1.size (k0_off11_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_12 (k0_off12_inb : ∀ i : grid0.Coords, ∀ a, (k0_off12 i) a + S1x1.size a ≤ S32x14.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c11 : Index := 11#32
  let v1 : BitVec 32 := pf.at 0 (Rect.unit (s := S32x14) ![v0.toNat, 11] S1x1.size (k0_off12_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_13 (k0_off13_inb : ∀ i : grid0.Coords, ∀ a, (k0_off13 i) a + S1x1.size a ≤ S32x14.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c12 : Index := 12#32
  let v1 : BitVec 32 := pf.at 0 (Rect.unit (s := S32x14) ![v0.toNat, 12] S1x1.size (k0_off13_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_14 (k0_off14_inb : ∀ i : grid0.Coords, ∀ a, (k0_off14 i) a + S1x1.size a ≤ S32x14.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c13 : Index := 13#32
  let v1 : BitVec 32 := pf.at 0 (Rect.unit (s := S32x14) ![v0.toNat, 13] S1x1.size (k0_off14_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_15 (k0_off1_inb : ∀ i : grid0.Coords, ∀ a, (k0_off1 i) a + S1x1.size a ≤ S32x14.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c0 : Index := 0#32
  let v1 : BitVec 32 := pf.at 0 (Rect.unit (s := S32x14) ![v0.toNat, 0] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_16 (k0_off2_inb : ∀ i : grid0.Coords, ∀ a, (k0_off2 i) a + S1x1.size a ≤ S32x14.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c1 : Index := 1#32
  let v1 : BitVec 32 := pf.at 0 (Rect.unit (s := S32x14) ![v0.toNat, 1] S1x1.size (k0_off2_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_17 (k0_off3_inb : ∀ i : grid0.Coords, ∀ a, (k0_off3 i) a + S1x1.size a ≤ S32x14.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c2 : Index := 2#32
  let v1 : BitVec 32 := pf.at 0 (Rect.unit (s := S32x14) ![v0.toNat, 2] S1x1.size (k0_off3_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_18 (k0_off4_inb : ∀ i : grid0.Coords, ∀ a, (k0_off4 i) a + S1x1.size a ≤ S32x14.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c3 : Index := 3#32
  let v1 : BitVec 32 := pf.at 0 (Rect.unit (s := S32x14) ![v0.toNat, 3] S1x1.size (k0_off4_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_19 (k0_off5_inb : ∀ i : grid0.Coords, ∀ a, (k0_off5 i) a + S1x1.size a ≤ S32x14.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c4 : Index := 4#32
  let v1 : BitVec 32 := pf.at 0 (Rect.unit (s := S32x14) ![v0.toNat, 4] S1x1.size (k0_off5_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_20 (k0_off6_inb : ∀ i : grid0.Coords, ∀ a, (k0_off6 i) a + S1x1.size a ≤ S32x14.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c5 : Index := 5#32
  let v1 : BitVec 32 := pf.at 0 (Rect.unit (s := S32x14) ![v0.toNat, 5] S1x1.size (k0_off6_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_21 (k0_off7_inb : ∀ i : grid0.Coords, ∀ a, (k0_off7 i) a + S1x1.size a ≤ S32x14.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c6 : Index := 6#32
  let v1 : BitVec 32 := pf.at 0 (Rect.unit (s := S32x14) ![v0.toNat, 6] S1x1.size (k0_off7_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_22 (k0_off8_inb : ∀ i : grid0.Coords, ∀ a, (k0_off8 i) a + S1x1.size a ≤ S32x14.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c7 : Index := 7#32
  let v1 : BitVec 32 := pf.at 0 (Rect.unit (s := S32x14) ![v0.toNat, 7] S1x1.size (k0_off8_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_23 (k0_off9_inb : ∀ i : grid0.Coords, ∀ a, (k0_off9 i) a + S1x1.size a ≤ S32x14.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c8 : Index := 8#32
  let v1 : BitVec 32 := pf.at 0 (Rect.unit (s := S32x14) ![v0.toNat, 8] S1x1.size (k0_off9_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_24 (k0_off10_inb : ∀ i : grid0.Coords, ∀ a, (k0_off10 i) a + S1x1.size a ≤ S32x14.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c9 : Index := 9#32
  let v1 : BitVec 32 := pf.at 0 (Rect.unit (s := S32x14) ![v0.toNat, 9] S1x1.size (k0_off10_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_25 (k0_off11_inb : ∀ i : grid0.Coords, ∀ a, (k0_off11 i) a + S1x1.size a ≤ S32x14.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c10 : Index := 10#32
  let v1 : BitVec 32 := pf.at 0 (Rect.unit (s := S32x14) ![v0.toNat, 10] S1x1.size (k0_off11_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_26 (k0_off12_inb : ∀ i : grid0.Coords, ∀ a, (k0_off12 i) a + S1x1.size a ≤ S32x14.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c11 : Index := 11#32
  let v1 : BitVec 32 := pf.at 0 (Rect.unit (s := S32x14) ![v0.toNat, 11] S1x1.size (k0_off12_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_27 (k0_off13_inb : ∀ i : grid0.Coords, ∀ a, (k0_off13 i) a + S1x1.size a ≤ S32x14.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c12 : Index := 12#32
  let v1 : BitVec 32 := pf.at 0 (Rect.unit (s := S32x14) ![v0.toNat, 12] S1x1.size (k0_off13_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_28 (k0_off14_inb : ∀ i : grid0.Coords, ∀ a, (k0_off14 i) a + S1x1.size a ≤ S32x14.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c13 : Index := 13#32
  let v1 : BitVec 32 := pf.at 0 (Rect.unit (s := S32x14) ![v0.toNat, 13] S1x1.size (k0_off14_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_29 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x64x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x64x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x64x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x64x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x64x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x64x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x64x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x64x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x64x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x64x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x64x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x64x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x64x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x64x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x64x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x64x1024 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x8x4x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S32x32x128 : Shape := ⟨3, ![32, 32, 128]⟩
abbrev S4096x16x8x128 : Shape := ⟨4, ![4096, 16, 8, 128]⟩
abbrev S32x128 : Shape := ⟨2, ![32, 128]⟩
abbrev S32 : Shape := ⟨1, ![32]⟩
abbrev S_ : Shape := ⟨0, ![]⟩
abbrev S32x128x1 : Shape := ⟨3, ![32, 128, 1]⟩
abbrev S32x128x16x8x128 : Shape := ⟨5, ![32, 128, 16, 8, 128]⟩
abbrev S32x2048x8x128 : Shape := ⟨4, ![32, 2048, 8, 128]⟩
abbrev S32x2048x8x4x128 : Shape := ⟨5, ![32, 2048, 8, 4, 128]⟩
abbrev S32x2048x32x128 : Shape := ⟨4, ![32, 2048, 32, 128]⟩
abbrev S32x32x2048 : Shape := ⟨3, ![32, 32, 2048]⟩
abbrev S2048 : Shape := ⟨1, ![2048]⟩
abbrev S32x1 : Shape := ⟨2, ![32, 1]⟩
abbrev S1x2048 : Shape := ⟨2, ![1, 2048]⟩
abbrev S32x2048 : Shape := ⟨2, ![32, 2048]⟩
abbrev S32x1x2048 : Shape := ⟨3, ![32, 1, 2048]⟩
abbrev S32x32 : Shape := ⟨2, ![32, 32]⟩
abbrev S32x32x1 : Shape := ⟨3, ![32, 32, 1]⟩

abbrev nBuf : Space → Nat
  | .hbm => 139
  | .vmem => 0
  | .smem => 0
  | _ => 0

abbrev hbmTy0_0 (i : Nat) : BufTy := match i % 128 with
  | 0 => ⟨S32x32x128, .f32⟩
  | 1 => ⟨S4096x16x8x128, .f32⟩
  | 2 => ⟨S4096x16x8x128, .f32⟩
  | 3 => ⟨S32x128, .i32⟩
  | 4 => ⟨S32, .i32⟩
  | 5 => ⟨S_, .i32⟩
  | 6 => ⟨S32x128, .i32⟩
  | 7 => ⟨S32x128, .i1⟩
  | 8 => ⟨S_, .i32⟩
  | 9 => ⟨S32x128, .i32⟩
  | 10 => ⟨S32x128, .i32⟩
  | 11 => ⟨S32x128, .i32⟩
  | 12 => ⟨S32x128x1, .i32⟩
  | 13 => ⟨S32x128x16x8x128, .f32⟩
  | 14 => ⟨S32x2048x8x128, .f32⟩
  | 15 => ⟨S_, .i32⟩
  | 16 => ⟨S32x128, .i32⟩
  | 17 => ⟨S32x128, .i1⟩
  | 18 => ⟨S_, .i32⟩
  | 19 => ⟨S32x128, .i32⟩
  | 20 => ⟨S32x128, .i32⟩
  | 21 => ⟨S32x128, .i32⟩
  | 22 => ⟨S32x128x1, .i32⟩
  | 23 => ⟨S32x128x16x8x128, .f32⟩
  | 24 => ⟨S32x2048x8x128, .f32⟩
  | 25 => ⟨S32x2048x8x4x128, .f32⟩
  | 26 => ⟨S32x2048x32x128, .f32⟩
  | 27 => ⟨S32x2048x8x4x128, .f32⟩
  | 28 => ⟨S32x2048x32x128, .f32⟩
  | 29 => ⟨S32x32x2048, .f32⟩
  | 30 => ⟨S_, .f32⟩
  | 31 => ⟨S32x32x2048, .f32⟩
  | 32 => ⟨S32x32x2048, .f32⟩
  | 33 => ⟨S2048, .i32⟩
  | 34 => ⟨S_, .i32⟩
  | 35 => ⟨S_, .i32⟩
  | 36 => ⟨S2048, .i32⟩
  | 37 => ⟨S2048, .i32⟩
  | 38 => ⟨S2048, .i32⟩
  | 39 => ⟨S_, .i32⟩
  | 40 => ⟨S2048, .i32⟩
  | 41 => ⟨S2048, .i1⟩
  | 42 => ⟨S2048, .i32⟩
  | 43 => ⟨S2048, .i32⟩
  | 44 => ⟨S_, .i32⟩
  | 45 => ⟨S2048, .i32⟩
  | 46 => ⟨S2048, .i1⟩
  | 47 => ⟨S2048, .i1⟩
  | 48 => ⟨S_, .i32⟩
  | 49 => ⟨S2048, .i32⟩
  | 50 => ⟨S2048, .i32⟩
  | 51 => ⟨S2048, .i32⟩
  | 52 => ⟨S_, .i32⟩
  | 53 => ⟨S32, .i32⟩
  | 54 => ⟨S32, .i32⟩
  | 55 => ⟨S_, .i32⟩
  | 56 => ⟨S_, .i32⟩
  | 57 => ⟨S32, .i32⟩
  | 58 => ⟨S32, .i32⟩
  | 59 => ⟨S32, .i32⟩
  | 60 => ⟨S_, .i32⟩
  | 61 => ⟨S32, .i32⟩
  | 62 => ⟨S32, .i1⟩
  | 63 => ⟨S32, .i32⟩
  | 64 => ⟨S32, .i32⟩
  | 65 => ⟨S_, .i32⟩
  | 66 => ⟨S32, .i32⟩
  | 67 => ⟨S32, .i1⟩
  | 68 => ⟨S32, .i1⟩
  | 69 => ⟨S_, .i32⟩
  | 70 => ⟨S32, .i32⟩
  | 71 => ⟨S32, .i32⟩
  | 72 => ⟨S32, .i32⟩
  | 73 => ⟨S32x1, .i32⟩
  | 74 => ⟨S1x2048, .i32⟩
  | 75 => ⟨S32x2048, .i32⟩
  | 76 => ⟨S32x2048, .i32⟩
  | 77 => ⟨S32x2048, .i32⟩
  | 78 => ⟨S_, .i32⟩
  | 79 => ⟨S32x2048, .i32⟩
  | 80 => ⟨S32x2048, .i1⟩
  | 81 => ⟨S_, .i32⟩
  | 82 => ⟨S2048, .i32⟩
  | 83 => ⟨S2048, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S2048, .i32⟩
  | 91 => ⟨S2048, .i32⟩
  | 92 => ⟨S_, .i32⟩
  | 93 => ⟨S2048, .i32⟩
  | 94 => ⟨S2048, .i1⟩
  | 95 => ⟨S_, .i32⟩
  | 96 => ⟨S2048, .i32⟩
  | 97 => ⟨S2048, .i1⟩
  | 98 => ⟨S_, .i32⟩
  | 99 => ⟨S_, .i1⟩
  | 100 => ⟨S2048, .i1⟩
  | 101 => ⟨S2048, .i1⟩
  | 102 => ⟨S2048, .i1⟩
  | 103 => ⟨S2048, .i32⟩
  | 104 => ⟨S2048, .i32⟩
  | 105 => ⟨S2048, .i32⟩
  | 106 => ⟨S_, .i32⟩
  | 107 => ⟨S2048, .i32⟩
  | 108 => ⟨S2048, .i1⟩
  | 109 => ⟨S1x2048, .i32⟩
  | 110 => ⟨S32x1, .i32⟩
  | 111 => ⟨S32x2048, .i32⟩
  | 112 => ⟨S32x2048, .i32⟩
  | 113 => ⟨S32x2048, .i1⟩
  | 114 => ⟨S1x2048, .i1⟩
  | 115 => ⟨S32x2048, .i1⟩
  | 116 => ⟨S32x2048, .i1⟩
  | 117 => ⟨S32x2048, .i1⟩
  | 118 => ⟨S32x1x2048, .i1⟩
  | 119 => ⟨S_, .f32⟩
  | 120 => ⟨S_, .f32⟩
  | 121 => ⟨S32x32x2048, .i1⟩
  | 122 => ⟨S32x32x2048, .f32⟩
  | 123 => ⟨S32x32x2048, .f32⟩
  | 124 => ⟨S_, .f32⟩
  | 125 => ⟨S32x32, .f32⟩
  | 126 => ⟨S_, .f32⟩
  | 127 => ⟨S32x32, .f32⟩
  | _ => ⟨S32x32x128, .f32⟩

abbrev hbmTy0_1 (i : Nat) : BufTy := match i % 128 with
  | 0 => ⟨S32x32, .f32⟩
  | 1 => ⟨S32x32x1, .f32⟩
  | 2 => ⟨S32x32x2048, .f32⟩
  | 3 => ⟨S32x32x2048, .f32⟩
  | 4 => ⟨S32x32x2048, .f32⟩
  | 5 => ⟨S_, .f32⟩
  | 6 => ⟨S32x32, .f32⟩
  | 7 => ⟨S32x32x1, .f32⟩
  | 8 => ⟨S32x32x2048, .f32⟩
  | 9 => ⟨S32x32x2048, .f32⟩
  | 10 => ⟨S32x32x128, .f32⟩
  | _ => ⟨S32x32x128, .f32⟩

abbrev hbmTy (i : Nat) : BufTy := match i / 128 with
  | 0 => hbmTy0_0 i
  | 1 => hbmTy0_1 i
  | _ => ⟨S32x32x128, .f32⟩

abbrev bufTy : (tb : Table) → Fin (tcTables nBuf tb) → BufTy
  | .hbm, ⟨i, _⟩ => hbmTy i
  | _, _ => ⟨S32x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_c : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_0 : Ref sig .tc := ⟨.hbm, 48, rfl⟩
abbrev main_call0_v12 : Ref sig .tc := ⟨.hbm, 49, rfl⟩
abbrev main_call0_v13 : Ref sig .tc := ⟨.hbm, 50, rfl⟩
abbrev main_v24 : Ref sig .tc := ⟨.hbm, 51, rfl⟩
abbrev main_c_4 : Ref sig .tc := ⟨.hbm, 52, rfl⟩
abbrev main_v25 : Ref sig .tc := ⟨.hbm, 53, rfl⟩
abbrev main_v26 : Ref sig .tc := ⟨.hbm, 54, rfl⟩
abbrev main_c_5 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_c : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_0 : Ref sig .tc := ⟨.hbm, 69, rfl⟩
abbrev main_call1_v12 : Ref sig .tc := ⟨.hbm, 70, rfl⟩
abbrev main_call1_v13 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_c_6 : Ref sig .tc := ⟨.hbm, 78, rfl⟩
abbrev main_v33 : Ref sig .tc := ⟨.hbm, 79, rfl⟩
abbrev main_v34 : Ref sig .tc := ⟨.hbm, 80, rfl⟩
abbrev main_c_7 : Ref sig .tc := ⟨.hbm, 81, rfl⟩
abbrev main_v35 : Ref sig .tc := ⟨.hbm, 82, rfl⟩
abbrev main_v36 : Ref sig .tc := ⟨.hbm, 83, rfl⟩
abbrev main_c_8 : Ref sig .tc := ⟨.hbm, 84, rfl⟩
abbrev main_call2_v0 : Ref sig .tc := ⟨.hbm, 85, rfl⟩
abbrev main_call2_c : Ref sig .tc := ⟨.hbm, 86, rfl⟩
abbrev main_call2_v1 : Ref sig .tc := ⟨.hbm, 87, rfl⟩
abbrev main_call2_c_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_c_1 : Ref sig .tc := ⟨.hbm, 92, rfl⟩
abbrev main_call2_v5 : Ref sig .tc := ⟨.hbm, 93, rfl⟩
abbrev main_call2_v6 : Ref sig .tc := ⟨.hbm, 94, rfl⟩
abbrev main_call2_c_2 : Ref sig .tc := ⟨.hbm, 95, rfl⟩
abbrev main_call2_v7 : Ref sig .tc := ⟨.hbm, 96, rfl⟩
abbrev main_call2_v8 : Ref sig .tc := ⟨.hbm, 97, rfl⟩
abbrev main_call2_c_3 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_v12 : Ref sig .tc := ⟨.hbm, 102, rfl⟩
abbrev main_call2_v13 : Ref sig .tc := ⟨.hbm, 103, rfl⟩
abbrev main_call2_v14 : Ref sig .tc := ⟨.hbm, 104, rfl⟩
abbrev main_v37 : Ref sig .tc := ⟨.hbm, 105, rfl⟩
abbrev main_c_9 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_cst_10 : Ref sig .tc := ⟨.hbm, 119, rfl⟩
abbrev main_call3_v0 : Ref sig .tc := ⟨.hbm, 120, rfl⟩
abbrev main_call3_v1 : Ref sig .tc := ⟨.hbm, 121, rfl⟩
abbrev main_call3_v2 : Ref sig .tc := ⟨.hbm, 122, rfl⟩
abbrev main_v50 : Ref sig .tc := ⟨.hbm, 123, rfl⟩
abbrev main_cst_11 : Ref sig .tc := ⟨.hbm, 124, rfl⟩
abbrev main_v51 : Ref sig .tc := ⟨.hbm, 125, rfl⟩
abbrev main_cst_12 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_cst_13 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩

abbrev nD : Nat := 1
abbrev τ : Topo := Topo.v7x

variable {F : FTy → Type} [FloatOps F]
-- ==== Proof.Attend.lean ====
module

public import Idealize.ShloMosaic.PureOps.Ideal.Laws

@[expose] public section

noncomputable section

namespace Cert.Attend

open Idealize.ShloMosaic

variable {ι κ : Type} [Fintype ι] [Fintype κ]

/-- The scores `s'` list, without repeats, the scores `s` on the active slots `A`, each active slot `k` showing the
    score at position `φ k`; every position left out has score `⊥`, and so has every slot that is not active. -/
structure Lists (s : ι → EReal) (s' : κ → EReal) (A : κ → Prop) (φ : κ → ι) : Prop where
  inj : ∀ k k', A k → A k' → φ k = φ k' → k = k'
  on : ∀ k, A k → s' k = s (φ k)
  off : ∀ k, ¬ A k → s' k = ⊥
  onto : ∀ i, s i ≠ ⊥ → ∃ k, A k ∧ φ k = i

variable {s : ι → EReal} {s' : κ → EReal} {A : κ → Prop} {φ : κ → ι}

/-- A weighted sum over the slots is the weighted sum over the positions, for weights that vanish at score `⊥`. -/
theorem Lists.sum_eq (h : Lists s s' A φ) (f : EReal → EReal) (hf : f ⊥ = 0) (v : ι → EReal) (v' : κ → EReal)
    (hv : ∀ k, A k → v' k = v (φ k)) : ∑ k, f (s' k) * v' k = ∑ i, f (s i) * v i := by
  classical
  have hz : ∀ i, f (s i) * v i ≠ 0 → ∃ k, A k ∧ φ k = i := fun i hi =>
    h.onto i fun h0 => hi (by rw [h0, hf, zero_mul])
  have hA : ∀ k, f (s' k) * v' k ≠ 0 → A k := fun k hk => by
    by_contra hn
    exact hk (by rw [h.off k hn, hf, zero_mul])
  refine Finset.sum_bij_ne_zero (fun k _ _ => φ k) (fun _ _ _ => Finset.mem_univ _)
    (fun k _ hk k' _ hk' e => h.inj k k' (hA k hk) (hA k' hk') e) (fun i _ hi => ?_) (fun k _ hk => ?_)
  · obtain ⟨k, hk, rfl⟩ := hz i hi
    exact ⟨k, Finset.mem_univ _, by rw [h.on k hk, hv k hk]; exact hi, rfl⟩
  · rw [h.on k (hA k hk), hv k (hA k hk)]

/-- The least upper bound of the slots' scores is that of the positions' scores. -/
theorem Lists.isLUB (h : Lists s s' A φ) {M : EReal} (hM : IsLUB (Set.range s) M) : IsLUB (Set.range s') M := by
  constructor
  · rintro _ ⟨k, rfl⟩
    by_cases hk : A k
    · rw [h.on k hk]; exact hM.1 ⟨_, rfl⟩
    · rw [h.off k hk]; exact bot_le
  · intro u hu
    refine hM.2 ?_
    rintro _ ⟨i, rfl⟩
    by_cases hi : s i = ⊥
    · rw [hi]; exact bot_le
    · obtain ⟨k, hk, rfl⟩ := h.onto i hi
      rw [← h.on k hk]; exact hu ⟨k, rfl⟩

/-- A finite family's least upper bound is one of its members, when it has any. -/
theorem mem_of_isLUB [Nonempty ι] {M : EReal} (hM : IsLUB (Set.range s) M) : ∃ i, s i = M := by
  obtain ⟨i, hi⟩ := Finite.exists_max s
  exact ⟨i, le_antisymm (hM.1 ⟨i, rfl⟩) (hM.2 (by rintro _ ⟨j, rfl⟩; exact hi j))⟩

/-- The exponential of a score below the maximum, less the maximum, is a real number that is not negative. -/
theorem exp_sub_real {x : EReal} {M : ℝ} (hx : x ≠ ⊤) : ∃ r : ℝ, 0 ≤ r ∧ Ideal.exp (x - M) = (r : EReal) := by
  induction x with
  | bot => exact ⟨0, le_refl _, by rw [EReal.bot_sub]; rfl⟩
  | coe a => exact ⟨Real.exp (a - M), (Real.exp_pos _).le, by rw [← EReal.coe_sub]; rfl⟩
  | top => exact absurd rfl hx

/-- The sum of the exponentials of the scores less their maximum is a positive real number, when no score is `⊤` and
    some score is not `⊥`. -/
theorem sum_exp_real {M : EReal} (hs : ∀ i, s i ≠ ⊤) (hne : ∃ i, s i ≠ ⊥) (hM : IsLUB (Set.range s) M) :
    ∃ l : ℝ, 0 < l ∧ ∑ i, Ideal.exp (s i - M) = (l : EReal) := by
  obtain ⟨i₀, h₀⟩ := hne
  haveI : Nonempty ι := ⟨i₀⟩
  obtain ⟨j, hj⟩ := mem_of_isLUB hM
  have hjb : s j ≠ ⊥ := fun hb => h₀ (le_bot_iff.mp (hb ▸ hj.symm ▸ hM.1 ⟨i₀, rfl⟩))
  obtain ⟨a, ha⟩ : ∃ a : ℝ, s j = (a : EReal) := ⟨(s j).toReal, (EReal.coe_toReal (hs j) hjb).symm⟩
  have hMa : M = (a : EReal) := hj.symm.trans ha
  subst hMa
  choose r hr0 hr using fun i => exp_sub_real (M := a) (hs i)
  refine ⟨∑ i, r i, ?_, ?_⟩
  · have : r j = 1 := by
      have e := hr j
      rw [hj, ← EReal.coe_sub, sub_self] at e
      have e' : ((Real.exp 0 : ℝ) : EReal) = (r j : EReal) := e
      rw [Real.exp_zero] at e'
      exact (EReal.coe_injective e').symm
    exact lt_of_lt_of_le (by rw [this]; exact one_pos) (Finset.single_le_sum (fun i _ => hr0 i) (Finset.mem_univ j))
  · rw [Finset.sum_congr rfl fun i _ => hr i]
    exact (map_sum (⟨⟨Real.toEReal, rfl⟩, fun x y => EReal.coe_add x y⟩ : ℝ →+ EReal) r Finset.univ).symm

/-- A factor that is a real number, and not negative, moves out of a finite sum of extended reals. -/
theorem sum_mul_real (f : ι → EReal) {c : ℝ} (hc : 0 ≤ c) : (∑ i, f i) * (c : EReal) = ∑ i, f i * (c : EReal) := by
  classical
  induction (Finset.univ : Finset ι) using Finset.induction_on with
  | empty => simp
  | insert a t ha ih =>
    rw [Finset.sum_insert ha, Finset.sum_insert ha, ← ih,
      EReal.right_distrib_of_nonneg_of_ne_top (EReal.coe_nonneg.mpr hc) (EReal.coe_ne_top c)]

/-- The two ways to attend: summing `exp · v` over the listed slots and dividing once by the sum of the exponentials, and
    summing over all the positions with each weight divided first. -/
theorem attend_eq (h : Lists s s' A φ) {M m : EReal} (hs : ∀ i, s i ≠ ⊤) (hne : ∃ i, s i ≠ ⊥)
    (hM : IsLUB (Set.range s) M) (hm : IsLUB (Set.range s') m) (v : ι → EReal) (v' : κ → EReal)
    (hv : ∀ k, A k → v' k = v (φ k)) :
    (∑ k, Ideal.exp (s' k - m) * v' k) * Ideal.div 1 (∑ k, Ideal.exp (s' k - m)) =
      ∑ i, Ideal.div (Ideal.exp (s i - M)) (∑ j, Ideal.exp (s j - M)) * v i := by
  obtain rfl : m = M := hm.unique (h.isLUB hM)
  obtain ⟨l, hl, hsum⟩ := sum_exp_real hs hne hM
  have hbot : Ideal.exp (⊥ - m) = 0 := by rw [EReal.bot_sub]; rfl
  have e1 := h.sum_eq (fun x => Ideal.exp (x - m)) hbot v v' hv
  have e2 := h.sum_eq (fun x => Ideal.exp (x - m)) hbot (fun _ => 1) (fun _ => 1) fun _ _ => rfl
  simp only [mul_one] at e1 e2
  rw [e1, e2, hsum, Ideal.div_coe hl.ne', one_mul, sum_mul_real _ (by positivity)]
  refine Finset.sum_congr rfl fun i _ => ?_
  rw [Ideal.div_coe hl.ne', mul_assoc, mul_assoc, mul_comm (v i)]

end Cert.Attend
-- ==== Proof.Tables.lean ====
/- The tables the kernel's host part builds from the context lengths, as plain functions of the arrays: which key blocks a
   query attends to, how many there are, and where they lie in the key store. -/
module

public import proofs.«01_k».proof.Proof.Gen.KernelIdeal
public import Idealize.ShloMosaic.Lib.ValueIdx
public import Idealize.ShloMosaic.Lib.StableHlo.Predicate
public import Idealize.ShloMosaic.Lib.Pointwise

@[expose] public section

set_option maxRecDepth 16384

noncomputable section

namespace Cert.Tables

open Cert.KernelIdeal Cert.KernelIdeal.Gen Idealize.ShloMosaic

/-! ## The stages, array by array -/

/-- The last position of each sequence: its length less one. -/
def lastPos (ctx : IVec S32 32) : IVec S32 32 := subi ctx (broadcastInDim S32 ![] bcast_S_S32 (constantI S_ 32 1#32))

/-- Floor division of a vector of words by sixty-four, as the host spells it. -/
def qBlock (p : IVec S32 32) : IVec S32 32 :=
  select
    (andi
      (cmpi .ne (signi p) (broadcastInDim S32 ![] bcast_S_S32 (signi (constantI S_ 32 64#32))))
      (cmpi .ne (Host.remsi p (broadcastInDim S32 ![] bcast_S_S32 (constantI S_ 32 64#32)))
        (broadcastInDim S32 ![] bcast_S_S32 (constantI S_ 32 0#32))))
    (subi (Host.divsi p (broadcastInDim S32 ![] bcast_S_S32 (constantI S_ 32 64#32)))
      (broadcastInDim S32 ![] bcast_S_S32 (constantI S_ 32 1#32)))
    (Host.divsi p (broadcastInDim S32 ![] bcast_S_S32 (constantI S_ 32 64#32)))

/-- The numbers 0 to 31 as one row. -/
def cols : IVec S1x32 32 := broadcastInDim S1x32 ![1] bcast_S32_S1x32_1 (iotaInDim S32 32 0)

/-- The divisor four, guarded against zero as the host guards it. -/
def four : IVec S_ 32 :=
  select (cmpi .eq (constantI S_ 32 4#32) (constantI S_ 32 0#32)) (constantI S_ 32 1#32) (constantI S_ 32 4#32)

/-- The truncated remainder of one more than the column number by four. -/
def rem4 : IVec S1x32 32 :=
  Host.remsi (addi cols (broadcastInDim S1x32 ![] bcast_S_S1x32 (constantI S_ 32 1#32)))
    (broadcastInDim S1x32 ![] bcast_S_S1x32 four)

/-- The floored remainder of one more than the column number by four, as the host spells it. -/
def mod4 : IVec S1x32 32 :=
  select
    (andi
      (cmpi .ne (cmpi .slt rem4 (broadcastInDim S1x32 ![] bcast_S_S1x32 (constantI S_ 32 0#32)))
        (broadcastInDim S1x32 ![] bcast_S_S1x32 (cmpi .slt four (constantI S_ 32 0#32))))
      (cmpi .ne rem4 (broadcastInDim S1x32 ![] bcast_S_S1x32 (constantI S_ 32 0#32))))
    (addi rem4 (broadcastInDim S1x32 ![] bcast_S_S1x32 four)) rem4

/-- The sort keys: the block's number where the query attends to it, thirty-two more where it does not. -/
def keys (qb : IVec S32 32) : IVec S32x32 32 :=
  select
    (andi
      (cmpi .sle (broadcastInDim S32x32 ![0, 1] bcast_S1x32_S32x32_0_1 cols)
        (broadcastInDim S32x32 ![0, 1] bcast_S32x1_S32x32_0_1 (broadcastInDim S32x1 ![0] bcast_S32_S32x1_0 qb)))
      (ori
        (cmpi .sgt (broadcastInDim S32x32 ![0, 1] bcast_S1x32_S32x32_0_1 cols)
          (broadcastInDim S32x32 ![0, 1] bcast_S32x1_S32x32_0_1
            (subi (broadcastInDim S32x1 ![0] bcast_S32_S32x1_0 qb)
              (broadcastInDim S32x1 ![] bcast_S_S32x1 (constantI S_ 32 8#32)))))
        (broadcastInDim S32x32 ![0, 1] bcast_S1x32_S32x32_0_1
          (cmpi .eq mod4 (broadcastInDim S1x32 ![] bcast_S_S1x32 (constantI S_ 32 0#32))))))
    (broadcastInDim S32x32 ![0, 1] bcast_S1x32_S32x32_0_1 cols)
    (broadcastInDim S32x32 ![0, 1] bcast_S1x32_S32x32_0_1
      (addi (broadcastInDim S1x32 ![] bcast_S_S1x32 (constantI S_ 32 32#32)) cols))

/-- The first fourteen keys in order. -/
def front (k : IVec S32x32 32) : IVec S32x14 32 :=
  extractStridedSlice S32x14 ![0, 0] (Host.sort S32x32 1 comparator_i32_d1 k) slices_S32x32_S32x14_0_0

/-- Which of the fourteen are blocks the query attends to. -/
def valid (f : IVec S32x14 32) : IVec S32x14 1 :=
  cmpi .slt f (broadcastInDim S32x14 ![] bcast_S_S32x14 (constantI S_ 32 32#32))

/-- How many there are. -/
def count (v : IVec S32x14 1) : IVec S32 32 :=
  Host.reduce IntOp.addi (extui 32 v natLt_1_32) (constantI S_ 32 0#32) reducesTo_S32x14_S32_d1 h_S_

/-- The place of the last of them. -/
def lastAt (n : IVec S32 32) : IVec S32x1 32 :=
  broadcastInDim S32x1 ![0] bcast_S32_S32x1_0 (subi n (broadcastInDim S32 ![] bcast_S_S32 (constantI S_ 32 1#32)))

/-- A place counted from the end when negative. -/
def wrapAt (l : IVec S32x1 32) : IVec S32x1x1 32 :=
  shapeCast S32x1x1
    (select (cmpi .slt l (broadcastInDim S32x1 ![] bcast_S_S32x1 (constantI S_ 32 0#32)))
      (addi l (broadcastInDim S32x1 ![] bcast_S_S32x1 (constantI S_ 32 14#32))) l)
    shapeCasts_S32x1_S32x1x1

/-- The key at a place, one place per row. -/
def keyAt (f : IVec S32x14 32) (w : IVec S32x1x1 32) : IVec S32x1 32 :=
  select
    (Host.reduce IntOp.andi
      (andi (cmpi .sge w (broadcastInDim S32x1x1 ![] bcast_S_S32x1x1 (constantI S_ 32 0#32)))
        (cmpi .sle w
          (broadcastInDim S32x1x1 ![0, 1, 2] bcast_S1x1x1_S32x1x1_0_1_2
            (broadcastInDim S1x1x1 ![2] bcast_S1_S1x1x1_2 (constantI S1 32 13#32)))))
      (constantI S_ 1 1#1) reducesTo_S32x1x1_S32x1_d2 h_S_)
    (Host.gather gather_S32x14_S32x1x1_S32x1_n_1_0_0_1_2_11 f w)
    (broadcastInDim S32x1 ![] bcast_S_S32x1 (constantI S_ 32 2147483648#32))

/-- The list of blocks: the attended ones, then the last of them again. -/
def blocks (f : IVec S32x14 32) : IVec S32x14 32 :=
  select (valid f) f (broadcastInDim S32x14 ![0, 1] bcast_S32x1_S32x14_0_1 (keyAt f (wrapAt (lastAt (count (valid f))))))

/-- The same with the row's place in the key store added. -/
def flat (s : IVec S32x14 32) : IVec S32x14 32 :=
  addi s
    (broadcastInDim S32x14 ![0, 1] bcast_S32x1_S32x14_0_1
      (muli (broadcastInDim S32x1 ![] bcast_S_S32x1 (constantI S_ 32 32#32))
        (broadcastInDim S32x1 ![0] bcast_S32_S32x1_0 (iotaInDim S32 32 0))))

/-- Row `n` of an array of rows. -/
def rowOf {α : Type} (x : S32x14.Idx → α) (n : ℕ) : S14.Idx → α := fun j => x (ix2 (Fin.ofNat 32 n) (j 0))

/-- Row `n` of the store places, an entry that is not attended to repeating the row before. -/
def chain (v : IVec S32x14 1) (f : IVec S32x14 32) : ℕ → IVec S14 32
  | 0 => rowOf f 0
  | n + 1 => select (rowOf v (n + 1)) (rowOf f (n + 1)) (chain v f n)

/-- A slice of one row, reshaped, is the row. -/
theorem row_slice {α : Type} (x : S32x14.Idx → α) (n : ℕ) (hn : n < 32) (hs : S32x14.Slices ![n, 0] S1x14)
    (hc : S1x14.ShapeCasts S14) : shapeCast S14 (extractStridedSlice S1x14 ![n, 0] x hs) hc = rowOf x n := by
  funext j
  idx_vars j
  pointwise
  unfold rowOf
  refine congrArg x ?_
  funext a
  refine Fin.ext ?_
  match a with
  | ⟨0, _⟩ => exact (Nat.mod_eq_of_lt hn).symm
  | ⟨1, _⟩ => rfl

/-- The first row as the host spells it. -/
theorem chain_zero (v : IVec S32x14 1) (f : IVec S32x14 32) (hs : S32x14.Slices ![0, 0] S1x14) (hc : S1x14.ShapeCasts S14) :
    shapeCast S14 (extractStridedSlice S1x14 ![0, 0] f hs) hc = chain v f 0 := row_slice f 0 (by decide) hs hc

/-- A later row as the host spells it over the row before. -/
theorem chain_succ (v : IVec S32x14 1) (f : IVec S32x14 32) (n : ℕ) (hn : n + 1 < 32) (hs : S32x14.Slices ![n + 1, 0] S1x14)
    (hc : S1x14.ShapeCasts S14) (r : IVec S14 32) (h : r = chain v f n) :
    select (shapeCast S14 (extractStridedSlice S1x14 ![n + 1, 0] v hs) hc)
      (shapeCast S14 (extractStridedSlice S1x14 ![n + 1, 0] f hs) hc) r = chain v f (n + 1) := by
  rw [row_slice v (n + 1) hn, row_slice f (n + 1) hn, h]
  rfl

/-! ## One entry of a row, as words -/

/-- The word of a block number. -/
abbrev w32 (n : ℕ) : BitVec 32 := BitVec.ofNat 32 n

/-- Whether a query in block `q` attends to block `j`. -/
def active (q j : ℕ) : Prop := j ≤ q ∧ (q < j + 8 ∨ (j + 1) % 4 = 0)

instance (q j : ℕ) : Decidable (active q j) := by unfold active; infer_instance

/-- The sort key of block `j` for a query in block `q`. -/
def keyW (q j : ℕ) : BitVec 32 := if active q j then w32 j else w32 (32 + j)

/-- The `i`-th key in order. -/
def frontW (q : ℕ) (i : Fin 32) : BitVec 32 :=
  keyW q (sortedFrom (n := 32) (fun k k' => comparator_i32_d1 (keyW q k) (keyW q k') == 1#1) i)

/-- The number of attended blocks. -/
def num (q : ℕ) : ℕ := ((List.range 32).filter fun j => active q j).length

theorem front_facts : ∀ q : Fin 32, 1 ≤ num q ∧ num q ≤ 14 ∧
    (∀ i : Fin 32, i.val < 14 → ((IntOp.cmpi .slt (frontW q i) 32#32 = 1#1 ↔ i.val < num q) ∧
      (i.val < num q → (frontW q i).toNat < 32 ∧ active q (frontW q i).toNat))) ∧
    (∀ j : Fin 32, active q j → ∃ i : Fin 14, i.val < num q ∧ frontW q ⟨i.val, by omega⟩ = w32 j) := by
  decide +kernel

theorem front_inj : ∀ q : Fin 32, ∀ i i' : Fin 14, i.val < num q → i'.val < num q →
    (frontW q ⟨i.val, by omega⟩) = (frontW q ⟨i'.val, by omega⟩) → i = i' := by
  decide +kernel

theorem keys_at (qb : IVec S32 32) (b j : Fin 32) (q : Fin 32) (hq : qb (ix1 b) = w32 q) :
    keys qb (ix2 b j) = keyW q j := by
  unfold keys mod4 rem4 four cols
  pointwise
  rw [hq]
  clear hq
  revert q j
  decide +kernel

theorem front_at (qb : IVec S32 32) (b : Fin 32) (i : Fin 14) (q : Fin 32) (hq : qb (ix1 b) = w32 q) :
    front (keys qb) (ix2 b i) = frontW q ⟨i.val, by omega⟩ := by
  have ha (k k' : Fin 32) : (ix2 b k : S32x32.Idx).along 1 k' = ix2 b k' := by
    funext a
    match a with
    | ⟨0, _⟩ => rfl
    | ⟨1, _⟩ => rfl
  unfold front Host.sort
  pointwise
  rw [ha]
  simp only [ha, keys_at qb b _ q hq]
  rfl

theorem gather_at (f : IVec S32x14 32) (w : IVec S32x1x1 32) (b : Fin 32) (n : Fin 14) (hw : w (ix3 b 0 0) = w32 n) :
    Host.gather gather_S32x14_S32x1x1_S32x1_n_1_0_0_1_2_11 f w (ix2 b 0) = f (ix2 b n) := by
  unfold Host.gather
  congr 1
  have h01 (a : Fin S32x14.rank) : a = 0 ∨ a = 1 := by
    match a with
    | ⟨0, _⟩ => exact Or.inl rfl
    | ⟨1, _⟩ => exact Or.inr rfl
  funext a
  refine Fin.ext ?_
  show GatherDims.start _ _ w a + GatherDims.batchCoord _ _ a + GatherDims.offCoord _ _ a = _
  rcases h01 a with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S32x14_S32x1x1_S32x1_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S32x14_S32x1x1_S32x1_n_1_0_0_1_2_11.startIndexMap from List.mem_singleton.mpr rfl)]
    have hsi : gather_S32x14_S32x1x1_S32x1_n_1_0_0_1_2_11.siIdx (ix2 b 0)
        ⟨List.idxOf (1 : Fin 2) gather_S32x14_S32x1x1_S32x1_n_1_0_0_1_2_11.startIndexMap,
          List.idxOf_lt_length_iff.2 (List.mem_singleton.mpr rfl)⟩ = ix3 b 0 0 := by
      funext c
      refine Fin.ext ?_
      match c with
      | ⟨0, _⟩ => rfl
      | ⟨1, _⟩ => rfl
      | ⟨2, _⟩ => rfl
    rw [hsi, hw]
    show min (w32 n).toInt.toNat 13 = n.val
    clear hw hsi
    revert n
    decide

theorem count_at (f : IVec S32x14 32) (b : Fin 32) (n : ℕ) (hn : n ≤ 14)
    (hf : ∀ i : Fin 14, IntOp.cmpi .slt (f (ix2 b i)) 32#32 = 1#1 ↔ i.val < n) :
    count (valid f) (ix1 b) = w32 n := by
  apply BitVec.eq_of_toNat_eq
  unfold count
  rw [StableHlo.Predicate.toNat_reduce_count_cols (by decide) (valid f)]
  have hv (i : Fin 14) : valid f (StableHlo.Predicate.ij b i) = 1#1 ↔ i.val < n := by
    rw [show (StableHlo.Predicate.ij b i : S32x14.Idx) = ix2 b i by
      funext a
      match a with
      | ⟨0, _⟩ => rfl
      | ⟨1, _⟩ => rfl, ← hf i]
    unfold valid
    pointwise
  show (Finset.univ.filter fun i : Fin 14 => valid f (StableHlo.Predicate.ij b i) = 1#1).card = _
  simp only [hv]
  clear hv hf
  interval_cases n <;> decide

/-- The key at a place within the row. -/
theorem keyAt_of (f : IVec S32x14 32) (w : IVec S32x1x1 32) (b : Fin 32) (n : Fin 14) (hw : w (ix3 b 0 0) = w32 n) :
    keyAt f w (ix2 b 0) = f (ix2 b n) := by
  unfold keyAt
  pointwise
  have hx (x : Fin 1) : w (ix3 b 0 x) = w32 n := by rw [Subsingleton.elim x 0, hw]
  rw [gather_at f _ b n hw]
  simp only [hx]
  have hone : Finset.fold IntOp.andi 1#1 (fun _ : Fin 1 =>
      IntOp.andi (IntOp.cmpi .sge (w32 n) 0#32) (IntOp.cmpi .sle (w32 n) 13#32)) Finset.univ = 1#1 := by
    clear hx hw
    revert n
    decide
  exact (congrArg (fun t => Scalar.select t (f (ix2 b n)) 2147483648#32) hone).trans rfl

/-- The key at the last place of `n + 1`. -/
theorem keyAt_at (f : IVec S32x14 32) (c : IVec S32 32) (b : Fin 32) (n : Fin 14) (hc : c (ix1 b) = w32 (n + 1)) :
    keyAt f (wrapAt (lastAt c)) (ix2 b 0) = f (ix2 b n) := by
  refine keyAt_of f _ b n ?_
  unfold wrapAt lastAt
  pointwise
  rw [hc]
  clear hc
  revert n
  decide

/-! ## The tables of a sequence in block `q` -/

/-- The `i`-th block of the list of a query in block `q`. -/
def blk (q : ℕ) (i : Fin 14) : ℕ :=
  (if i.val < num q then frontW q ⟨i.val, by omega⟩ else frontW q (Fin.ofNat 32 (num q - 1))).toNat

theorem blk_lt (q : Fin 32) (i : Fin 14) : blk q i < 32 := by
  obtain ⟨h1, h2, h3, -⟩ := front_facts q
  unfold blk
  split
  · next h => exact ((h3 ⟨i.val, by omega⟩ i.isLt).2 h).1
  · have hm : (Fin.ofNat 32 (num q - 1)).val = num q - 1 := Nat.mod_eq_of_lt (by omega)
    exact ((h3 (Fin.ofNat 32 (num q - 1)) (by omega)).2 (by omega)).1

theorem blk_active (q : Fin 32) (i : Fin 14) (h : i.val < num q) : active q (blk q i) := by
  obtain ⟨-, -, h3, -⟩ := front_facts q
  unfold blk
  rw [if_pos h]
  exact ((h3 ⟨i.val, by omega⟩ i.isLt).2 h).2

theorem blk_inj (q : Fin 32) (i i' : Fin 14) (h : i.val < num q) (h' : i'.val < num q) (e : blk q i = blk q i') : i = i' := by
  unfold blk at e
  rw [if_pos h, if_pos h'] at e
  exact front_inj q i i' h h' (BitVec.eq_of_toNat_eq e)

theorem blk_onto (q j : Fin 32) (h : active q j) : ∃ i : Fin 14, i.val < num q ∧ blk q i = j.val := by
  obtain ⟨-, -, -, h4⟩ := front_facts q
  obtain ⟨i, hi, he⟩ := h4 j h
  refine ⟨i, hi, ?_⟩
  unfold blk
  rw [if_pos hi, he]
  exact Nat.mod_eq_of_lt (by omega)

theorem num_pos (q : Fin 32) : 1 ≤ num q := (front_facts q).1

theorem num_le (q : Fin 32) : num q ≤ 14 := (front_facts q).2.1

theorem select_one (x y : BitVec 32) : Scalar.select 1#1 x y = x := rfl

theorem select_zero (x y : BitVec 32) : Scalar.select 0#1 x y = y := rfl

section

variable (qb : IVec S32 32) (b : Fin 32) (q : Fin 32) (hq : qb (ix1 b) = w32 q)
include hq

theorem valid_at (i : Fin 14) : valid (front (keys qb)) (ix2 b i) = 1#1 ↔ i.val < num q := by
  rw [← ((front_facts q).2.2.1 ⟨i.val, by omega⟩ i.isLt).1]
  unfold valid
  pointwise
  rw [front_at qb b i q hq]

theorem num_at : count (valid (front (keys qb))) (ix1 b) = w32 (num q) := by
  refine count_at _ b _ (num_le q) fun i => ?_
  rw [front_at qb b i q hq]
  exact ((front_facts q).2.2.1 ⟨i.val, by omega⟩ i.isLt).1

theorem blocks_at (i : Fin 14) : blocks (front (keys qb)) (ix2 b i) = w32 (blk q i) := by
  have h1 := num_pos q
  have h2 := num_le q
  have hk := keyAt_at (front (keys qb)) (count (valid (front (keys qb)))) b ⟨num q - 1, by omega⟩ (by
    rw [num_at qb b q hq]
    show _ = w32 (num q - 1 + 1)
    rw [Nat.sub_add_cancel h1])
  have hb : (w32 (blk q i)) = if i.val < num q then frontW q ⟨i.val, by omega⟩ else frontW q (Fin.ofNat 32 (num q - 1)) := by
    unfold blk
    exact BitVec.ofNat_toNat 32 _
  rw [hb]
  unfold blocks
  pointwise
  rw [hk, front_at qb b i q hq, front_at qb b _ q hq]
  by_cases h : i.val < num q
  · rw [(valid_at qb b q hq i).mpr h, if_pos h, select_one]
  · rw [if_neg h, (BitVec.eq_zero_or_eq_one _).resolve_right (fun e => h ((valid_at qb b q hq i).mp e)), select_zero]
    refine congrArg (frontW q) (Fin.ext ?_)
    exact (Nat.mod_eq_of_lt (by omega)).symm

theorem flat_at (i : Fin 14) : flat (blocks (front (keys qb))) (ix2 b i) = w32 (32 * b + blk q i) := by
  unfold flat
  pointwise
  rw [blocks_at qb b q hq i]
  show BitVec.ofNat 32 _ + BitVec.ofNat 32 32 * BitVec.ofNat 32 _ = _
  rw [← BitVec.ofNat_mul, ← BitVec.ofNat_add, Nat.add_comm]

end

/-! ## The store places, row after row -/

section

variable (qb : IVec S32 32) (q : Fin 32 → Fin 32) (hq : ∀ b : Fin 32, qb (ix1 b) = w32 (q b))
include hq

/-- An attended entry of the list is at its block's place in the store. -/
theorem chain_at (b : Fin 32) (i : Fin 14) (h : i.val < num (q b)) :
    chain (valid (front (keys qb))) (flat (blocks (front (keys qb)))) b (ix1 i) = w32 (32 * b + blk (q b) i) := by
  have hb : Fin.ofNat 32 b.val = b := Fin.ext (Nat.mod_eq_of_lt b.isLt)
  have hf : rowOf (flat (blocks (front (keys qb)))) b (ix1 i) = w32 (32 * b + blk (q b) i) := by
    show flat (blocks (front (keys qb))) (ix2 (Fin.ofNat 32 b.val) i) = _
    rw [hb, flat_at qb b (q b) (hq b)]
  rcases b with ⟨_ | n, hn⟩
  · exact hf
  · show Scalar.select (rowOf (valid (front (keys qb))) (n + 1) (ix1 i)) (rowOf _ (n + 1) (ix1 i)) _ = _
    rw [show rowOf (valid (front (keys qb))) (n + 1) (ix1 i) = 1#1 by
      show valid (front (keys qb)) (ix2 (Fin.ofNat 32 (n + 1)) i) = 1#1
      rw [hb]
      exact (valid_at qb _ _ (hq _) i).mpr h]
    exact hf

end

/-! ## Every entry is within the store, whatever the lengths -/

/-- A key is below sixty-four. -/
theorem keys_lt (qb : IVec S32 32) (b j : Fin 32) : (keys qb (ix2 b j)).toNat < 64 := by
  have hs : ∀ (t : BitVec 1) (j : Fin 32), (Scalar.select t (w32 j) (32#32 + w32 j)).toNat < 64 := by decide
  unfold keys cols
  pointwise
  exact hs _ j

/-- So is each of the first fourteen in order. -/
theorem front_lt (qb : IVec S32 32) (b : Fin 32) (i : Fin 14) : (front (keys qb) (ix2 b i)).toNat < 64 := by
  have ha (k k' : Fin 32) : (ix2 b k : S32x32.Idx).along 1 k' = ix2 b k' := by
    funext a
    match a with
    | ⟨0, _⟩ => rfl
    | ⟨1, _⟩ => rfl
  unfold front Host.sort
  pointwise
  rw [ha]
  exact keys_lt qb b _

/-- There are at most fourteen attended blocks. -/
theorem count_le (v : IVec S32x14 1) (b : Fin 32) : ∃ n : Fin 15, count v (ix1 b) = w32 n := by
  refine ⟨⟨(count v (ix1 b)).toNat, ?_⟩, ((BitVec.ofNat_toNat 32 _).trans (BitVec.setWidth_eq _)).symm⟩
  unfold count
  rw [StableHlo.Predicate.toNat_reduce_count_cols (by decide) v]
  exact Nat.lt_succ_of_le ((Finset.card_le_univ _).trans (by simp))

/-- A block of the list is below sixty-four. -/
theorem blocks_lt (qb : IVec S32 32) (b : Fin 32) (i : Fin 14) : (blocks (front (keys qb)) (ix2 b i)).toNat < 64 := by
  obtain ⟨n, hn⟩ := count_le (valid (front (keys qb))) b
  have hw : wrapAt (lastAt (count (valid (front (keys qb))))) (ix3 b 0 0)
      = w32 (if n.val = 0 then 13 else n.val - 1) := by
    unfold wrapAt lastAt
    pointwise
    rw [hn]
    clear hn
    revert n
    decide
  have hk := keyAt_of (front (keys qb)) _ b ⟨if n.val = 0 then 13 else n.val - 1, by split <;> omega⟩ hw
  unfold blocks
  pointwise
  rw [hk]
  unfold Scalar.select
  split
  · exact front_lt qb b i
  · exact front_lt qb b _

/-- A list's entry with the row's place added. -/
theorem flat_toNat (qb : IVec S32 32) (b : Fin 32) (i : Fin 14) :
    (flat (blocks (front (keys qb))) (ix2 b i)).toNat = (blocks (front (keys qb)) (ix2 b i)).toNat + 32 * b := by
  have h := blocks_lt qb b i
  unfold flat
  pointwise
  have hm : IntOp.muli 32#32 (BitVec.ofNat 32 b.val) = BitVec.ofNat 32 (32 * b.val) := (BitVec.ofNat_mul _ _).symm
  show (_ + IntOp.muli 32#32 (BitVec.ofNat 32 b.val)).toNat = _
  rw [hm, BitVec.toNat_add, BitVec.toNat_ofNat]
  have := b.isLt
  omega

/-- Every entry of the list is within the store. -/
theorem chain_lt (qb : IVec S32 32) (n : ℕ) (hn : n < 32) (i : Fin 14) :
    (chain (valid (front (keys qb))) (flat (blocks (front (keys qb)))) n (ix1 i)).toNat < 1024 := by
  induction n with
  | zero =>
    show (flat (blocks (front (keys qb))) (ix2 0 i)).toNat < 1024
    have := blocks_lt qb 0 i
    rw [flat_toNat]
    omega
  | succ n ih =>
    have hb : (Fin.ofNat 32 (n + 1)).val = n + 1 := Nat.mod_eq_of_lt hn
    show (Scalar.select (valid (front (keys qb)) (ix2 (Fin.ofNat 32 (n + 1)) i))
      (flat (blocks (front (keys qb))) (ix2 (Fin.ofNat 32 (n + 1)) i)) (chain _ _ n (ix1 i))).toNat < 1024
    generalize Fin.ofNat 32 (n + 1) = b at hb
    by_cases hv : valid (front (keys qb)) (ix2 b i) = 1#1
    · have h1 : blocks (front (keys qb)) (ix2 b i) = front (keys qb) (ix2 b i) := by
        show Scalar.select (valid (front (keys qb)) (ix2 b i)) _ _ = _
        rw [hv]
        rfl
      have h2 : (front (keys qb) (ix2 b i)).toNat < 32 := by
        have h3 := front_lt qb b i
        exact (StableHlo.Predicate.slt_iff_toNat (b := 32#32) (by omega) (by decide)).mp hv
      rw [hv]
      show (flat (blocks (front (keys qb))) (ix2 b i)).toNat < 1024
      rw [flat_toNat, h1]
      omega
    · rw [(BitVec.eq_zero_or_eq_one _).resolve_right hv]
      exact ih (by omega)

/-! ## From the lengths -/

/-- The block of the last position of a sequence. -/
def qOf (ctx : IVec S32 32) (b : Fin 32) : Fin 32 := Fin.ofNat 32 (((ctx (ix1 b)).toNat - 1) / 64)

theorem div_at : ∀ n : Fin 2048, qBlock (fun _ => w32 n) (ix1 0) = w32 (n.val / 64) := by decide +kernel

theorem lastPos_at (ctx : IVec S32 32) (b : Fin 32) (h1 : 1 ≤ (ctx (ix1 b)).toNat) (h2 : (ctx (ix1 b)).toNat ≤ 2048) :
    lastPos ctx (ix1 b) = w32 ((ctx (ix1 b)).toNat - 1) := by
  apply BitVec.eq_of_toNat_eq
  show (ctx (ix1 b) - 1#32).toNat = _
  rw [BitVec.toNat_sub, BitVec.toNat_ofNat, BitVec.toNat_ofNat]
  omega

theorem qBlock_at (ctx : IVec S32 32) (b : Fin 32) (h1 : 1 ≤ (ctx (ix1 b)).toNat) (h2 : (ctx (ix1 b)).toNat ≤ 2048) :
    qBlock (lastPos ctx) (ix1 b) = w32 (qOf ctx b) := by
  have e : qBlock (lastPos ctx) (ix1 b) = qBlock (fun _ => lastPos ctx (ix1 b)) (ix1 0) := rfl
  rw [e, lastPos_at ctx b h1 h2]
  refine (div_at ⟨(ctx (ix1 b)).toNat - 1, by omega⟩).trans ?_
  refine congrArg w32 (Nat.mod_eq_of_lt ?_).symm
  show ((ctx (ix1 b)).toNat - 1) / 64 < 32
  omega

end Cert.Tables
-- ==== Proof.Word.Rows.lean ====
/- The rows of store places that the host part of `Cert.Kernel` makes, one over the row before. -/
module

public import proofs.«01_k».proof.Proof.Word.Host

@[expose] public section

set_option maxRecDepth 16384

noncomputable section

namespace Cert.Kernel.Host

open Cert.Kernel Cert.Kernel.Gen Idealize.ShloMosaic Idealize.ShloMosaic.TcCoe Idealize.SL.Sem Idealize.ShloMosaic.StableHlo
open Cert.Tables

variable {F : FTy → Type} [FloatOps F]

/-- The buffers' contents, as the operations take them. -/
local notation "𝕍" => Valuation τ sig (Elt F)

/-! ## The rows of store places -/

/-- The thirty-two rows' buffers. -/
abbrev rowBuf (X : 𝕍) : Fin 32 → S14.Idx → BitVec 32 :=
  ![X (Proc.devRef .tc main_v48), X (Proc.devRef .tc main_v53), X (Proc.devRef .tc main_v58), X (Proc.devRef .tc main_v63), X (Proc.devRef .tc main_v68), X (Proc.devRef .tc main_v73), X (Proc.devRef .tc main_v78), X (Proc.devRef .tc main_v83), X (Proc.devRef .tc main_v88), X (Proc.devRef .tc main_v93), X (Proc.devRef .tc main_v98), X (Proc.devRef .tc main_v103), X (Proc.devRef .tc main_v108), X (Proc.devRef .tc main_v113), X (Proc.devRef .tc main_v118), X (Proc.devRef .tc main_v123), X (Proc.devRef .tc main_v128), X (Proc.devRef .tc main_v133), X (Proc.devRef .tc main_v138), X (Proc.devRef .tc main_v143), X (Proc.devRef .tc main_v148), X (Proc.devRef .tc main_v153), X (Proc.devRef .tc main_v158), X (Proc.devRef .tc main_v163), X (Proc.devRef .tc main_v168), X (Proc.devRef .tc main_v173), X (Proc.devRef .tc main_v178), X (Proc.devRef .tc main_v183), X (Proc.devRef .tc main_v188), X (Proc.devRef .tc main_v193), X (Proc.devRef .tc main_v198), X (Proc.devRef .tc main_v203)]

set_option maxHeartbeats 0 in
theorem rows_read (X : 𝕍) (b : Fin 32) :
    rowBuf (after opsE X) b = chain (X (Proc.devRef .tc main_v33)) (flat (X (Proc.devRef .tc main_v40))) b := by
  fin_cases b
  all_goals
    simp only [rowBuf, Fin.zero_eta, Fin.mk_one, Fin.reduceFinMk, Matrix.cons_val]
    after_reads_simp
    iterate 31 try refine chain_succ _ (flat (X (Proc.devRef .tc main_v40))) _ (by decide) (by decide) (by decide) _ ?_
    exact chain_zero _ (flat (X (Proc.devRef .tc main_v40))) (by decide) (by decide)

end Cert.Kernel.Host
-- ==== Proof.Real.Runs.lean ====
/- The launch set-up of `Cert.KernelIdeal`, after the generated one: the staged copies and the bodies' steps of the frame of the program. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`, `hostOps0_13`, `hostOps0_14`, `hostOps0_15`, `hostOps0_16`, `hostOps0_17`, `hostOps0_18`, `hostOps0_19`, `hostOps0_20`, `hostOps0_21`, `hostOps0_22`, `hostOps0_23`, `hostOps0_24`, `hostOps0_25`, `hostOps0_26`, `hostOps0_27`, `hostOps0_28`, `hostOps0_29`, `hostOps0_30`, `hostOps0_31`, `hostOps0_32`, `hostOps0_33`, `hostOps0_34`, `hostOps0_35`, `hostOps0_36`, `hostOps0_37`, `hostOps0_38`, `hostOps0_39`, `hostOps0_40`, `hostOps0_41`, `hostOps0_42`, `hostOps0_43`, `hostOps0_44`, `hostOps0_45`, `hostOps0_46`, `hostOps0_47`, `hostOps0_48`, `hostOps0_49`, `hostOps0_50`, `hostOps0_51`, `hostOps0_52`, `hostOps0_53`, `hostOps0_54`, `hostOps0_55`, `hostOps0_56`, `hostOps0_57`, `hostOps0_58`, `hostOps0_59`, `hostOps0_60`, `hostOps0_61`, `hostOps0_62`, `hostOps0_63`, `hostOps0_64`, `hostOps0_65`, `hostOps0_66`, `hostOps0_67`, `hostOps0_68`, `hostOps0_69`, `hostOps0_70`, `hostOps0_71`, `hostOps0_72`, `hostOps0_73`, `hostOps0_74`). -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor
theorem hostOps0_49_fresh : (hostOps0_49 : List (HloOp τ sig (Elt F))).Forall fun op => op.fresh = ∅ := by
  simp only [List.Forall]; repeat' constructor
theorem hostOps0_50_fresh : (hostOps0_50 : List (HloOp τ sig (Elt F))).Forall fun op => op.fresh = ∅ := by
  simp only [List.Forall]; repeat' constructor
theorem hostOps0_51_fresh : (hostOps0_51 : List (HloOp τ sig (Elt F))).Forall fun op => op.fresh = ∅ := by
  simp only [List.Forall]; repeat' constructor
theorem hostOps0_52_fresh : (hostOps0_52 : List (HloOp τ sig (Elt F))).Forall fun op => op.fresh = ∅ := by
  simp only [List.Forall]; repeat' constructor
theorem hostOps0_53_fresh : (hostOps0_53 : List (HloOp τ sig (Elt F))).Forall fun op => op.fresh = ∅ := by
  simp only [List.Forall]; repeat' constructor
theorem hostOps0_54_fresh : (hostOps0_54 : List (HloOp τ sig (Elt F))).Forall fun op => op.fresh = ∅ := by
  simp only [List.Forall]; repeat' constructor
theorem hostOps0_55_fresh : (hostOps0_55 : List (HloOp τ sig (Elt F))).Forall fun op => op.fresh = ∅ := by
  simp only [List.Forall]; repeat' constructor
theorem hostOps0_56_fresh : (hostOps0_56 : List (HloOp τ sig (Elt F))).Forall fun op => op.fresh = ∅ := by
  simp only [List.Forall]; repeat' constructor
theorem hostOps0_57_fresh : (hostOps0_57 : List (HloOp τ sig (Elt F))).Forall fun op => op.fresh = ∅ := by
  simp only [List.Forall]; repeat' constructor
theorem hostOps0_58_fresh : (hostOps0_58 : List (HloOp τ sig (Elt F))).Forall fun op => op.fresh = ∅ := by
  simp only [List.Forall]; repeat' constructor
theorem hostOps0_59_fresh : (hostOps0_59 : List (HloOp τ sig (Elt F))).Forall fun op => op.fresh = ∅ := by
  simp only [List.Forall]; repeat' constructor
theorem hostOps0_60_fresh : (hostOps0_60 : List (HloOp τ sig (Elt F))).Forall fun op => op.fresh = ∅ := by
  simp only [List.Forall]; repeat' constructor
theorem hostOps0_61_fresh : (hostOps0_61 : List (HloOp τ sig (Elt F))).Forall fun op => op.fresh = ∅ := by
  simp only [List.Forall]; repeat' constructor
theorem hostOps0_62_fresh : (hostOps0_62 : List (HloOp τ sig (Elt F))).Forall fun op => op.fresh = ∅ := by
  simp only [List.Forall]; repeat' constructor
theorem hostOps0_63_fresh : (hostOps0_63 : List (HloOp τ sig (Elt F))).Forall fun op => op.fresh = ∅ := by
  simp only [List.Forall]; repeat' constructor
theorem hostOps0_64_fresh : (hostOps0_64 : List (HloOp τ sig (Elt F))).Forall fun op => op.fresh = ∅ := by
  simp only [List.Forall]; repeat' constructor
theorem hostOps0_65_fresh : (hostOps0_65 : List (HloOp τ sig (Elt F))).Forall fun op => op.fresh = ∅ := by
  simp only [List.Forall]; repeat' constructor
theorem hostOps0_66_fresh : (hostOps0_66 : List (HloOp τ sig (Elt F))).Forall fun op => op.fresh = ∅ := by
  simp only [List.Forall]; repeat' constructor
theorem hostOps0_67_fresh : (hostOps0_67 : List (HloOp τ sig (Elt F))).Forall fun op => op.fresh = ∅ := by
  simp only [List.Forall]; repeat' constructor
theorem hostOps0_68_fresh : (hostOps0_68 : List (HloOp τ sig (Elt F))).Forall fun op => op.fresh = ∅ := by
  simp only [List.Forall]; repeat' constructor
theorem hostOps0_69_fresh : (hostOps0_69 : List (HloOp τ sig (Elt F))).Forall fun op => op.fresh = ∅ := by
  simp only [List.Forall]; repeat' constructor
theorem hostOps0_70_fresh : (hostOps0_70 : List (HloOp τ sig (Elt F))).Forall fun op => op.fresh = ∅ := by
  simp only [List.Forall]; repeat' constructor
theorem hostOps0_71_fresh : (hostOps0_71 : List (HloOp τ sig (Elt F))).Forall fun op => op.fresh = ∅ := by
  simp only [List.Forall]; repeat' constructor
theorem hostOps0_72_fresh : (hostOps0_72 : List (HloOp τ sig (Elt F))).Forall fun op => op.fresh = ∅ := by
  simp only [List.Forall]; repeat' constructor
theorem hostOps0_73_fresh : (hostOps0_73 : List (HloOp τ sig (Elt F))).Forall fun op => op.fresh = ∅ := by
  simp only [List.Forall]; repeat' constructor
theorem hostOps0_74_fresh : (hostOps0_74 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74] [hostOps1] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub, hostOps0_52_sub, hostOps0_53_sub, hostOps0_54_sub, hostOps0_55_sub, hostOps0_56_sub, hostOps0_57_sub, hostOps0_58_sub, hostOps0_59_sub, hostOps0_60_sub, hostOps0_61_sub, hostOps0_62_sub, hostOps0_63_sub, hostOps0_64_sub, hostOps0_65_sub, hostOps0_66_sub, hostOps0_67_sub, hostOps0_68_sub, hostOps0_69_sub, hostOps0_70_sub, hostOps0_71_sub, hostOps0_72_sub, hostOps0_73_sub, hostOps0_74_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh, hostOps0_45_fresh, hostOps0_46_fresh, hostOps0_47_fresh, hostOps0_48_fresh, hostOps0_49_fresh, hostOps0_50_fresh, hostOps0_51_fresh, hostOps0_52_fresh, hostOps0_53_fresh, hostOps0_54_fresh, hostOps0_55_fresh, hostOps0_56_fresh, hostOps0_57_fresh, hostOps0_58_fresh, hostOps0_59_fresh, hostOps0_60_fresh, hostOps0_61_fresh, hostOps0_62_fresh, hostOps0_63_fresh, hostOps0_64_fresh, hostOps0_65_fresh, hostOps0_66_fresh, hostOps0_67_fresh, hostOps0_68_fresh, hostOps0_69_fresh, hostOps0_70_fresh, hostOps0_71_fresh, hostOps0_72_fresh, hostOps0_73_fresh, hostOps0_74_fresh⟩) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S32x14 .i32 := Memref.whole main_v238
abbrev htbM0_0 : tbM0_0.IsWhole := Memref.isWhole_whole _
abbrev tbM0_1 : Memref sig .tc .smem S32x14 .i32 := Memref.whole main_v40
abbrev htbM0_1 : tbM0_1.IsWhole := Memref.isWhole_whole _
abbrev tbM0_2 : Memref sig .tc .smem S32 .i32 := Memref.whole main_v35
abbrev htbM0_2 : tbM0_2.IsWhole := Memref.isWhole_whole _
abbrev tbM0_3 : Memref sig .tc .smem S32 .i32 := Memref.whole main_v1
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg4 = m ((c : Thread nD τ).loc main_arg4) := by
  unfold Pipeline.afterTail
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of (hO : Ok m) {c : Dev nD} (dat : Dat τ (Elt F) Unit ℕ (UR sig nD τ) ℕ (cfgM m hO) c) (hA : dat.A 11 = V m c (Pipeline.arrRef spec0 11))
    (hafter : ∀ t, dat.after 11 t = iblk m hO c 11 t) (t : Fin (cfgM m hO).N) (d) : dat.before 11 t d = iblk m hO c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of (hO : Ok m) {c : Dev nD} (dat : Dat τ (Elt F) Unit ℕ (UR sig nD τ) ℕ (cfgM m hO) c) (hA : dat.A 12 = V m c (Pipeline.arrRef spec0 12))
    (hafter : ∀ t, dat.after 12 t = iblk m hO c 12 t) (t : Fin (cfgM m hO).N) (d) : dat.before 12 t d = iblk m hO c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of (hO : Ok m) {c : Dev nD} (dat : Dat τ (Elt F) Unit ℕ (UR sig nD τ) ℕ (cfgM m hO) c) (hA : dat.A 13 = V m c (Pipeline.arrRef spec0 13))
    (hafter : ∀ t, dat.after 13 t = iblk m hO c 13 t) (t : Fin (cfgM m hO).N) (d) : dat.before 13 t d = iblk m hO c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of (hO : Ok m) {c : Dev nD} (dat : Dat τ (Elt F) Unit ℕ (UR sig nD τ) ℕ (cfgM m hO) c) (hA : dat.A 14 = V m c (Pipeline.arrRef spec0 14))
    (hafter : ∀ t, dat.after 14 t = iblk m hO c 14 t) (t : Fin (cfgM m hO).N) (d) : dat.before 14 t d = iblk m hO c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of (hO : Ok m) {c : Dev nD} (dat : Dat τ (Elt F) Unit ℕ (UR sig nD τ) ℕ (cfgM m hO) c) (hA : dat.A 15 = V m c (Pipeline.arrRef spec0 15))
    (hafter : ∀ t, dat.after 15 t = iblk m hO c 15 t) (t : Fin (cfgM m hO).N) (d) : dat.before 15 t d = iblk m hO c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of (hO : Ok m) {c : Dev nD} (dat : Dat τ (Elt F) Unit ℕ (UR sig nD τ) ℕ (cfgM m hO) c) (hA : dat.A 16 = V m c (Pipeline.arrRef spec0 16))
    (hafter : ∀ t, dat.after 16 t = iblk m hO c 16 t) (t : Fin (cfgM m hO).N) (d) : dat.before 16 t d = iblk m hO c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of (hO : Ok m) {c : Dev nD} (dat : Dat τ (Elt F) Unit ℕ (UR sig nD τ) ℕ (cfgM m hO) c) (hA : dat.A 17 = V m c (Pipeline.arrRef spec0 17))
    (hafter : ∀ t, dat.after 17 t = iblk m hO c 17 t) (t : Fin (cfgM m hO).N) (d) : dat.before 17 t d = iblk m hO c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of (hO : Ok m) {c : Dev nD} (dat : Dat τ (Elt F) Unit ℕ (UR sig nD τ) ℕ (cfgM m hO) c) (hA : dat.A 18 = V m c (Pipeline.arrRef spec0 18))
    (hafter : ∀ t, dat.after 18 t = iblk m hO c 18 t) (t : Fin (cfgM m hO).N) (d) : dat.before 18 t d = iblk m hO c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of (hO : Ok m) {c : Dev nD} (dat : Dat τ (Elt F) Unit ℕ (UR sig nD τ) ℕ (cfgM m hO) c) (hA : dat.A 19 = V m c (Pipeline.arrRef spec0 19))
    (hafter : ∀ t, dat.after 19 t = iblk m hO c 19 t) (t : Fin (cfgM m hO).N) (d) : dat.before 19 t d = iblk m hO c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_20_of (hO : Ok m) {c : Dev nD} (dat : Dat τ (Elt F) Unit ℕ (UR sig nD τ) ℕ (cfgM m hO) c) (hA : dat.A 20 = V m c (Pipeline.arrRef spec0 20))
    (hafter : ∀ t, dat.after 20 t = iblk m hO c 20 t) (t : Fin (cfgM m hO).N) (d) : dat.before 20 t d = iblk m hO c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_21_of (hO : Ok m) {c : Dev nD} (dat : Dat τ (Elt F) Unit ℕ (UR sig nD τ) ℕ (cfgM m hO) c) (hA : dat.A 21 = V m c (Pipeline.arrRef spec0 21))
    (hafter : ∀ t, dat.after 21 t = iblk m hO c 21 t) (t : Fin (cfgM m hO).N) (d) : dat.before 21 t d = iblk m hO c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_22_of (hO : Ok m) {c : Dev nD} (dat : Dat τ (Elt F) Unit ℕ (UR sig nD τ) ℕ (cfgM m hO) c) (hA : dat.A 22 = V m c (Pipeline.arrRef spec0 22))
    (hafter : ∀ t, dat.after 22 t = iblk m hO c 22 t) (t : Fin (cfgM m hO).N) (d) : dat.before 22 t d = iblk m hO c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
/-- Input window 23's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_23_of (hO : Ok m) {c : Dev nD} (dat : Dat τ (Elt F) Unit ℕ (UR sig nD τ) ℕ (cfgM m hO) c) (hA : dat.A 23 = V m c (Pipeline.arrRef spec0 23))
    (hafter : ∀ t, dat.after 23 t = iblk m hO c 23 t) (t : Fin (cfgM m hO).N) (d) : dat.before 23 t d = iblk m hO c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
/-- Input window 24's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_24_of (hO : Ok m) {c : Dev nD} (dat : Dat τ (Elt F) Unit ℕ (UR sig nD τ) ℕ (cfgM m hO) c) (hA : dat.A 24 = V m c (Pipeline.arrRef spec0 24))
    (hafter : ∀ t, dat.after 24 t = iblk m hO c 24 t) (t : Fin (cfgM m hO).N) (d) : dat.before 24 t d = iblk m hO c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
/-- Input window 25's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_25_of (hO : Ok m) {c : Dev nD} (dat : Dat τ (Elt F) Unit ℕ (UR sig nD τ) ℕ (cfgM m hO) c) (hA : dat.A 25 = V m c (Pipeline.arrRef spec0 25))
    (hafter : ∀ t, dat.after 25 t = iblk m hO c 25 t) (t : Fin (cfgM m hO).N) (d) : dat.before 25 t d = iblk m hO c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)
/-- Input window 26's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_26_of (hO : Ok m) {c : Dev nD} (dat : Dat τ (Elt F) Unit ℕ (UR sig nD τ) ℕ (cfgM m hO) c) (hA : dat.A 26 = V m c (Pipeline.arrRef spec0 26))
    (hafter : ∀ t, dat.after 26 t = iblk m hO c 26 t) (t : Fin (cfgM m hO).N) (d) : dat.before 26 t d = iblk m hO c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)
/-- Input window 27's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_27_of (hO : Ok m) {c : Dev nD} (dat : Dat τ (Elt F) Unit ℕ (UR sig nD τ) ℕ (cfgM m hO) c) (hA : dat.A 27 = V m c (Pipeline.arrRef spec0 27))
    (hafter : ∀ t, dat.after 27 t = iblk m hO c 27 t) (t : Fin (cfgM m hO).N) (d) : dat.before 27 t d = iblk m hO c 27 t :=
  (dat.before_in_eq_fetched 27 rfl (fun _ => rfl) (fun _ _ _ => rfl) (fun t => by rw [hafter]; unfold Dat.blockOf iblk; rw [hA]; try rfl) t d).trans
    (by unfold Dat.fetched Dat.blockOf iblk; rw [hA]; try rfl)
/-- Input window 28's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_28_of (hO : Ok m) {c : Dev nD} (dat : Dat τ (Elt F) Unit ℕ (UR sig nD τ) ℕ (cfgM m hO) c) (hA : dat.A 28 = V m c (Pipeline.arrRef spec0 28))
    (hafter : ∀ t, dat.after 28 t = iblk m hO c 28 t) (t : Fin (cfgM m hO).N) (d) : dat.before 28 t d = iblk m hO c 28 t :=
  (dat.before_in_eq_fetched 28 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1800000 in
/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(((h c).2 main_arg0 (by decide : main_arg0 ∈ Pipeline.restRefs sig spec0)).trans (W_main_arg0 m hO dats c)),
      (((h c).2 main_arg1 (by decide : main_arg1 ∈ Pipeline.restRefs sig spec0)).trans (W_main_arg1 m hO dats c)),
      (((h c).2 main_arg2 (by decide : main_arg2 ∈ Pipeline.restRefs sig spec0)).trans (W_main_arg2 m hO dats c)),
      (((h c).2 main_arg3 (by decide : main_arg3 ∈ Pipeline.restRefs sig spec0)).trans (W_main_arg3 m hO dats c)),
      (((h c).2 main_arg4 (by decide : main_arg4 ∈ Pipeline.restRefs sig spec0)).trans (W_main_arg4 m hO dats c))⟩) h

/-! ## The kernel body on any staging memrefs: a subtype the run finds -/

/-- One staging buffer of output window 29, through which its contents are stated (`View.read_writes_of_cover`: the
    choice does not matter). -/
abbrev VO0_29 : View sig .tc .vmem S1x8x4x128 .f32 := (Memref.whole cc0_stg29_0 : Memref sig .tc .vmem S1x8x4x128 .f32).view
/-- Each window's current staging memref at point `t`, spelled as the pipeline passes it (`bodyAt0`), and its wholeness. -/
abbrev ms0_0 (hO : Ok m) (t : Fin (cfgM m hO).N) : Memref sig .tc .vmem S1x32x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x64x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x64x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x64x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x64x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x64x1024 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x64x1024 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x64x1024 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x64x1024 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x64x1024 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x64x1024 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x64x1024 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x64x1024 .f32 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x64x1024 .f32 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S1x64x1024 .f32 := spec0_14.stage ((cfgM m hO).slots t 14)
abbrev hs0_14 (hO : Ok m) (t : Fin (cfgM m hO).N) : (ms0_14 m hO t).IsWhole := hstage0_14 (((cfgM m hO).slots t 14).cast nbuf0_14)
abbrev ms0_15 (hO : Ok m) (t : Fin (cfgM m hO).N) : Memref sig .tc .vmem S1x64x1024 .f32 := spec0_15.stage ((cfgM m hO).slots t 15)
abbrev hs0_15 (hO : Ok m) (t : Fin (cfgM m hO).N) : (ms0_15 m hO t).IsWhole := hstage0_15 (((cfgM m hO).slots t 15).cast nbuf0_15)
abbrev ms0_16 (hO : Ok m) (t : Fin (cfgM m hO).N) : Memref sig .tc .vmem S1x64x1024 .f32 := spec0_16.stage ((cfgM m hO).slots t 16)
abbrev hs0_16 (hO : Ok m) (t : Fin (cfgM m hO).N) : (ms0_16 m hO t).IsWhole := hstage0_16 (((cfgM m hO).slots t 16).cast nbuf0_16)
abbrev ms0_17 (hO : Ok m) (t : Fin (cfgM m hO).N) : Memref sig .tc .vmem S1x64x1024 .f32 := spec0_17.stage ((cfgM m hO).slots t 17)
abbrev hs0_17 (hO : Ok m) (t : Fin (cfgM m hO).N) : (ms0_17 m hO t).IsWhole := hstage0_17 (((cfgM m hO).slots t 17).cast nbuf0_17)
abbrev ms0_18 (hO : Ok m) (t : Fin (cfgM m hO).N) : Memref sig .tc .vmem S1x64x1024 .f32 := spec0_18.stage ((cfgM m hO).slots t 18)
abbrev hs0_18 (hO : Ok m) (t : Fin (cfgM m hO).N) : (ms0_18 m hO t).IsWhole := hstage0_18 (((cfgM m hO).slots t 18).cast nbuf0_18)
abbrev ms0_19 (hO : Ok m) (t : Fin (cfgM m hO).N) : Memref sig .tc .vmem S1x64x1024 .f32 := spec0_19.stage ((cfgM m hO).slots t 19)
abbrev hs0_19 (hO : Ok m) (t : Fin (cfgM m hO).N) : (ms0_19 m hO t).IsWhole := hstage0_19 (((cfgM m hO).slots t 19).cast nbuf0_19)
abbrev ms0_20 (hO : Ok m) (t : Fin (cfgM m hO).N) : Memref sig .tc .vmem S1x64x1024 .f32 := spec0_20.stage ((cfgM m hO).slots t 20)
abbrev hs0_20 (hO : Ok m) (t : Fin (cfgM m hO).N) : (ms0_20 m hO t).IsWhole := hstage0_20 (((cfgM m hO).slots t 20).cast nbuf0_20)
abbrev ms0_21 (hO : Ok m) (t : Fin (cfgM m hO).N) : Memref sig .tc .vmem S1x64x1024 .f32 := spec0_21.stage ((cfgM m hO).slots t 21)
abbrev hs0_21 (hO : Ok m) (t : Fin (cfgM m hO).N) : (ms0_21 m hO t).IsWhole := hstage0_21 (((cfgM m hO).slots t 21).cast nbuf0_21)
abbrev ms0_22 (hO : Ok m) (t : Fin (cfgM m hO).N) : Memref sig .tc .vmem S1x64x1024 .f32 := spec0_22.stage ((cfgM m hO).slots t 22)
abbrev hs0_22 (hO : Ok m) (t : Fin (cfgM m hO).N) : (ms0_22 m hO t).IsWhole := hstage0_22 (((cfgM m hO).slots t 22).cast nbuf0_22)
abbrev ms0_23 (hO : Ok m) (t : Fin (cfgM m hO).N) : Memref sig .tc .vmem S1x64x1024 .f32 := spec0_23.stage ((cfgM m hO).slots t 23)
abbrev hs0_23 (hO : Ok m) (t : Fin (cfgM m hO).N) : (ms0_23 m hO t).IsWhole := hstage0_23 (((cfgM m hO).slots t 23).cast nbuf0_23)
abbrev ms0_24 (hO : Ok m) (t : Fin (cfgM m hO).N) : Memref sig .tc .vmem S1x64x1024 .f32 := spec0_24.stage ((cfgM m hO).slots t 24)
abbrev hs0_24 (hO : Ok m) (t : Fin (cfgM m hO).N) : (ms0_24 m hO t).IsWhole := hstage0_24 (((cfgM m hO).slots t 24).cast nbuf0_24)
abbrev ms0_25 (hO : Ok m) (t : Fin (cfgM m hO).N) : Memref sig .tc .vmem S1x64x1024 .f32 := spec0_25.stage ((cfgM m hO).slots t 25)
abbrev hs0_25 (hO : Ok m) (t : Fin (cfgM m hO).N) : (ms0_25 m hO t).IsWhole := hstage0_25 (((cfgM m hO).slots t 25).cast nbuf0_25)
abbrev ms0_26 (hO : Ok m) (t : Fin (cfgM m hO).N) : Memref sig .tc .vmem S1x64x1024 .f32 := spec0_26.stage ((cfgM m hO).slots t 26)
abbrev hs0_26 (hO : Ok m) (t : Fin (cfgM m hO).N) : (ms0_26 m hO t).IsWhole := hstage0_26 (((cfgM m hO).slots t 26).cast nbuf0_26)
abbrev ms0_27 (hO : Ok m) (t : Fin (cfgM m hO).N) : Memref sig .tc .vmem S1x64x1024 .f32 := spec0_27.stage ((cfgM m hO).slots t 27)
abbrev hs0_27 (hO : Ok m) (t : Fin (cfgM m hO).N) : (ms0_27 m hO t).IsWhole := hstage0_27 (((cfgM m hO).slots t 27).cast nbuf0_27)
abbrev ms0_28 (hO : Ok m) (t : Fin (cfgM m hO).N) : Memref sig .tc .vmem S1x64x1024 .f32 := spec0_28.stage ((cfgM m hO).slots t 28)
abbrev hs0_28 (hO : Ok m) (t : Fin (cfgM m hO).N) : (ms0_28 m hO t).IsWhole := hstage0_28 (((cfgM m hO).slots t 28).cast nbuf0_28)
abbrev ms0_29 (hO : Ok m) (t : Fin (cfgM m hO).N) : Memref sig .tc .vmem S1x8x4x128 .f32 := spec0_29.stage ((cfgM m hO).slots t 29)
abbrev hs0_29 (hO : Ok m) (t : Fin (cfgM m hO).N) : (ms0_29 m hO t).IsWhole := hstage0_29 (((cfgM m hO).slots t 29).cast nbuf0_29)

end Cert.KernelIdeal.Gen

end
-- ==== Proof.Real.RunA.lean ====
/- The launch set-up of `Cert.KernelIdeal`, after the generated one: the run of one body, and what its stores leave, in the frame of the program. -/
module

public import proofs.«01_k».proof.Proof.Real.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A whole memref held at the values `X` is its buffer held at the contents that read `X`. -/
theorem owns_unread {c : Thread nD τ} {sp : Space} {sh : Shape} {e : EltTy} {M : Memref sig c.2.kind sp sh e} (h : M.IsWhole)
    {q : PosShare TreeShare} {X : sh.Idx → Elt F e} :
    (owns c M q X : sProp 𝕄) = (M.view.loc c ↦[M.view.set]{q} h.unread X) := by
  unfold owns
  refine Entails.antisymm (show _ ⊢ (_ : sProp 𝕄) from ?_) (show _ ⊢ (_ : sProp 𝕄) from ?_)
  · iintro ⟨%f, %hf, H⟩
    obtain rfl := h.eq_unread hf
    iexact H
  · iintro H
    iexists _
    isplitr
    · ipureintro; exact h.read_unread _
    iexact H

-- (the run's proof term is large: the definition's epilogue — `abstractNestedProofs` — walks it past the default budget)
set_option maxHeartbeats 0 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg5 : Memref sig .tc .vmem S1x32x1024 .f32) (harg5 : arg5.IsWhole) (arg6 : Memref sig .tc .vmem S1x64x1024 .f32) (harg6 : arg6.IsWhole) (arg7 : Memref sig .tc .vmem S1x64x1024 .f32) (harg7 : arg7.IsWhole) (arg8 : Memref sig .tc .vmem S1x64x1024 .f32) (harg8 : arg8.IsWhole) (arg9 : Memref sig .tc .vmem S1x64x1024 .f32) (harg9 : arg9.IsWhole) (arg10 : Memref sig .tc .vmem S1x64x1024 .f32) (harg10 : arg10.IsWhole) (arg11 : Memref sig .tc .vmem S1x64x1024 .f32) (harg11 : arg11.IsWhole) (arg12 : Memref sig .tc .vmem S1x64x1024 .f32) (harg12 : arg12.IsWhole) (arg13 : Memref sig .tc .vmem S1x64x1024 .f32) (harg13 : arg13.IsWhole) (arg14 : Memref sig .tc .vmem S1x64x1024 .f32) (harg14 : arg14.IsWhole) (arg15 : Memref sig .tc .vmem S1x64x1024 .f32) (harg15 : arg15.IsWhole) (arg16 : Memref sig .tc .vmem S1x64x1024 .f32) (harg16 : arg16.IsWhole) (arg17 : Memref sig .tc .vmem S1x64x1024 .f32) (harg17 : arg17.IsWhole) (arg18 : Memref sig .tc .vmem S1x64x1024 .f32) (harg18 : arg18.IsWhole) (arg19 : Memref sig .tc .vmem S1x64x1024 .f32) (harg19 : arg19.IsWhole) (arg20 : Memref sig .tc .vmem S1x64x1024 .f32) (harg20 : arg20.IsWhole) (arg21 : Memref sig .tc .vmem S1x64x1024 .f32) (harg21 : arg21.IsWhole) (arg22 : Memref sig .tc .vmem S1x64x1024 .f32) (harg22 : arg22.IsWhole) (arg23 : Memref sig .tc .vmem S1x64x1024 .f32) (harg23 : arg23.IsWhole) (arg24 : Memref sig .tc .vmem S1x64x1024 .f32) (harg24 : arg24.IsWhole) (arg25 : Memref sig .tc .vmem S1x64x1024 .f32) (harg25 : arg25.IsWhole) (arg26 : Memref sig .tc .vmem S1x64x1024 .f32) (harg26 : arg26.IsWhole) (arg27 : Memref sig .tc .vmem S1x64x1024 .f32) (harg27 : arg27.IsWhole) (arg28 : Memref sig .tc .vmem S1x64x1024 .f32) (harg28 : arg28.IsWhole) (arg29 : Memref sig .tc .vmem S1x64x1024 .f32) (harg29 : arg29.IsWhole) (arg30 : Memref sig .tc .vmem S1x64x1024 .f32) (harg30 : arg30.IsWhole) (arg31 : Memref sig .tc .vmem S1x64x1024 .f32) (harg31 : arg31.IsWhole) (arg32 : Memref sig .tc .vmem S1x64x1024 .f32) (harg32 : arg32.IsWhole) (arg33 : Memref sig .tc .vmem S1x64x1024 .f32) (harg33 : arg33.IsWhole) (arg34 : Memref sig .tc .vmem S1x8x4x128 .f32) (harg34 : arg34.IsWhole)
    (x0 : Vec F S1x32x1024 .f32) (x1 : Vec F S1x64x1024 .f32) (x2 : Vec F S1x64x1024 .f32) (x3 : Vec F S1x64x1024 .f32) (x4 : Vec F S1x64x1024 .f32) (x5 : Vec F S1x64x1024 .f32) (x6 : Vec F S1x64x1024 .f32) (x7 : Vec F S1x64x1024 .f32) (x8 : Vec F S1x64x1024 .f32) (x9 : Vec F S1x64x1024 .f32) (x10 : Vec F S1x64x1024 .f32) (x11 : Vec F S1x64x1024 .f32) (x12 : Vec F S1x64x1024 .f32) (x13 : Vec F S1x64x1024 .f32) (x14 : Vec F S1x64x1024 .f32) (x15 : Vec F S1x64x1024 .f32) (x16 : Vec F S1x64x1024 .f32) (x17 : Vec F S1x64x1024 .f32) (x18 : Vec F S1x64x1024 .f32) (x19 : Vec F S1x64x1024 .f32) (x20 : Vec F S1x64x1024 .f32) (x21 : Vec F S1x64x1024 .f32) (x22 : Vec F S1x64x1024 .f32) (x23 : Vec F S1x64x1024 .f32) (x24 : Vec F S1x64x1024 .f32) (x25 : Vec F S1x64x1024 .f32) (x26 : Vec F S1x64x1024 .f32) (x27 : Vec F S1x64x1024 .f32) (x28 : Vec F S1x64x1024 .f32) (xt0 : TbBuf0 (F := F) c tbM0_0) (xt1 : TbBuf0 (F := F) c tbM0_1) (xt2 : TbBuf0 (F := F) c tbM0_2) (xt3 : TbBuf0 (F := F) c tbM0_3) :
    { L29 : List (View.Piece (Elt F) S1x8x4x128 .f32) //
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg15 fullShare x10 ∗ owns (c : Thread nD τ) arg16 fullShare x11 ∗ owns (c : Thread nD τ) arg17 fullShare x12 ∗ owns (c : Thread nD τ) arg18 fullShare x13 ∗ owns (c : Thread nD τ) arg19 fullShare x14 ∗ owns (c : Thread nD τ) arg20 fullShare x15 ∗ owns (c : Thread nD τ) arg21 fullShare x16 ∗ owns (c : Thread nD τ) arg22 fullShare x17 ∗ owns (c : Thread nD τ) arg23 fullShare x18 ∗ owns (c : Thread nD τ) arg24 fullShare x19 ∗ owns (c : Thread nD τ) arg25 fullShare x20 ∗ owns (c : Thread nD τ) arg26 fullShare x21 ∗ owns (c : Thread nD τ) arg27 fullShare x22 ∗ owns (c : Thread nD τ) arg28 fullShare x23 ∗ owns (c : Thread nD τ) arg29 fullShare x24 ∗ owns (c : Thread nD τ) arg30 fullShare x25 ∗ owns (c : Thread nD τ) arg31 fullShare x26 ∗ owns (c : Thread nD τ) arg32 fullShare x27 ∗ owns (c : Thread nD τ) arg33 fullShare x28 ∗ (∃ d, owns (c : Thread nD τ) arg34 fullShare d) ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg15 fullShare x10 ∗ owns (c : Thread nD τ) arg16 fullShare x11 ∗ owns (c : Thread nD τ) arg17 fullShare x12 ∗ owns (c : Thread nD τ) arg18 fullShare x13 ∗ owns (c : Thread nD τ) arg19 fullShare x14 ∗ owns (c : Thread nD τ) arg20 fullShare x15 ∗ owns (c : Thread nD τ) arg21 fullShare x16 ∗ owns (c : Thread nD τ) arg22 fullShare x17 ∗ owns (c : Thread nD τ) arg23 fullShare x18 ∗ owns (c : Thread nD τ) arg24 fullShare x19 ∗ owns (c : Thread nD τ) arg25 fullShare x20 ∗ owns (c : Thread nD τ) arg26 fullShare x21 ∗ owns (c : Thread nD τ) arg27 fullShare x22 ∗ owns (c : Thread nD τ) arg28 fullShare x23 ∗ owns (c : Thread nD τ) arg29 fullShare x24 ∗ owns (c : Thread nD τ) arg30 fullShare x25 ∗ owns (c : Thread nD τ) arg31 fullShare x26 ∗ owns (c : Thread nD τ) arg32 fullShare x27 ∗ owns (c : Thread nD τ) arg33 fullShare x28 ∗ (∃ f, arg34.view.loc (c : Thread nD τ) ↦[arg34.view.set]{fullShare} arg34.view.writes (Elt F) f L29) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0__attn_kernel i tbM0_0 htbM0_0 tbM0_1 htbM0_1 tbM0_2 htbM0_2 tbM0_3 htbM0_3 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K } := by
  refine ⟨?_, fun E K => ?run⟩
  case run =>
    rw [owns_unread harg5 (c := (c : Thread nD τ)), owns_unread harg6 (c := (c : Thread nD τ)), owns_unread harg7 (c := (c : Thread nD τ)), owns_unread harg8 (c := (c : Thread nD τ)), owns_unread harg9 (c := (c : Thread nD τ)), owns_unread harg10 (c := (c : Thread nD τ)), owns_unread harg11 (c := (c : Thread nD τ)), owns_unread harg12 (c := (c : Thread nD τ)), owns_unread harg13 (c := (c : Thread nD τ)), owns_unread harg14 (c := (c : Thread nD τ)), owns_unread harg15 (c := (c : Thread nD τ)), owns_unread harg16 (c := (c : Thread nD τ)), owns_unread harg17 (c := (c : Thread nD τ)), owns_unread harg18 (c := (c : Thread nD τ)), owns_unread harg19 (c := (c : Thread nD τ)), owns_unread harg20 (c := (c : Thread nD τ)), owns_unread harg21 (c := (c : Thread nD τ)), owns_unread harg22 (c := (c : Thread nD τ)), owns_unread harg23 (c := (c : Thread nD τ)), owns_unread harg24 (c := (c : Thread nD τ)), owns_unread harg25 (c := (c : Thread nD τ)), owns_unread harg26 (c := (c : Thread nD τ)), owns_unread harg27 (c := (c : Thread nD τ)), owns_unread harg28 (c := (c : Thread nD τ)), owns_unread harg29 (c := (c : Thread nD τ)), owns_unread harg30 (c := (c : Thread nD τ)), owns_unread harg31 (c := (c : Thread nD τ)), owns_unread harg32 (c := (c : Thread nD τ)), owns_unread harg33 (c := (c : Thread nD τ))]
    simp only [cc0__attn_kernel_eq_skeleton]; unfold cc0__attn_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨H0, H1, H2, H3, H4, H5, H6, H7, H8, H9, H10, H11, H12, H13, H14, H15, H16, H17, H18, H19, H20, H21, H22, H23, H24, H25, H26, H27, H28, ⟨%d29, %f29, -, H29⟩, HT0, HT1, HT2, HT3, Hk⟩
    sl_exec
    sl_step
    iapply Hk
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · iexact H20
    isplitl [H21]
    · iexact H21
    isplitl [H22]
    · iexact H22
    isplitl [H23]
    · iexact H23
    isplitl [H24]
    · iexact H24
    isplitl [H25]
    · iexact H25
    isplitl [H26]
    · iexact H26
    isplitl [H27]
    · iexact H27
    isplitl [H28]
    · iexact H28
    isplitl [H29]; · iexists _; iexact H29
    isplitl [HT0]; · iexact HT0
    isplitl [HT1]; · iexact HT1
    isplitl [HT2]; · iexact HT2
    iexact HT3

end Cert.KernelIdeal.Gen

end
-- ==== Proof.Real.Frame.lean ====
/- The launch set-up of `Cert.KernelIdeal`, after the generated one: the launch, the frame and what the arrays hold at the end, of the program. -/
module

public import proofs.«01_k».proof.Proof.Real.RunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 29 tile its block (8 stores of `S1x1x4x128`, checked by the kernel's evaluation: Lib/Ring.lean `Piece.tiledL`, linear in the pieces, through a loop's `@[irreducible]` trip theorem too), so they cover it. -/
theorem cover0_A_29 (c : Dev nD) (i : grid0.Coords) (arg5 : Memref sig .tc .vmem S1x32x1024 .f32) (harg5 : arg5.IsWhole) (arg6 : Memref sig .tc .vmem S1x64x1024 .f32) (harg6 : arg6.IsWhole) (arg7 : Memref sig .tc .vmem S1x64x1024 .f32) (harg7 : arg7.IsWhole) (arg8 : Memref sig .tc .vmem S1x64x1024 .f32) (harg8 : arg8.IsWhole) (arg9 : Memref sig .tc .vmem S1x64x1024 .f32) (harg9 : arg9.IsWhole) (arg10 : Memref sig .tc .vmem S1x64x1024 .f32) (harg10 : arg10.IsWhole) (arg11 : Memref sig .tc .vmem S1x64x1024 .f32) (harg11 : arg11.IsWhole) (arg12 : Memref sig .tc .vmem S1x64x1024 .f32) (harg12 : arg12.IsWhole) (arg13 : Memref sig .tc .vmem S1x64x1024 .f32) (harg13 : arg13.IsWhole) (arg14 : Memref sig .tc .vmem S1x64x1024 .f32) (harg14 : arg14.IsWhole) (arg15 : Memref sig .tc .vmem S1x64x1024 .f32) (harg15 : arg15.IsWhole) (arg16 : Memref sig .tc .vmem S1x64x1024 .f32) (harg16 : arg16.IsWhole) (arg17 : Memref sig .tc .vmem S1x64x1024 .f32) (harg17 : arg17.IsWhole) (arg18 : Memref sig .tc .vmem S1x64x1024 .f32) (harg18 : arg18.IsWhole) (arg19 : Memref sig .tc .vmem S1x64x1024 .f32) (harg19 : arg19.IsWhole) (arg20 : Memref sig .tc .vmem S1x64x1024 .f32) (harg20 : arg20.IsWhole) (arg21 : Memref sig .tc .vmem S1x64x1024 .f32) (harg21 : arg21.IsWhole) (arg22 : Memref sig .tc .vmem S1x64x1024 .f32) (harg22 : arg22.IsWhole) (arg23 : Memref sig .tc .vmem S1x64x1024 .f32) (harg23 : arg23.IsWhole) (arg24 : Memref sig .tc .vmem S1x64x1024 .f32) (harg24 : arg24.IsWhole) (arg25 : Memref sig .tc .vmem S1x64x1024 .f32) (harg25 : arg25.IsWhole) (arg26 : Memref sig .tc .vmem S1x64x1024 .f32) (harg26 : arg26.IsWhole) (arg27 : Memref sig .tc .vmem S1x64x1024 .f32) (harg27 : arg27.IsWhole) (arg28 : Memref sig .tc .vmem S1x64x1024 .f32) (harg28 : arg28.IsWhole) (arg29 : Memref sig .tc .vmem S1x64x1024 .f32) (harg29 : arg29.IsWhole) (arg30 : Memref sig .tc .vmem S1x64x1024 .f32) (harg30 : arg30.IsWhole) (arg31 : Memref sig .tc .vmem S1x64x1024 .f32) (harg31 : arg31.IsWhole) (arg32 : Memref sig .tc .vmem S1x64x1024 .f32) (harg32 : arg32.IsWhole) (arg33 : Memref sig .tc .vmem S1x64x1024 .f32) (harg33 : arg33.IsWhole) (arg34 : Memref sig .tc .vmem S1x8x4x128 .f32) (harg34 : arg34.IsWhole)
    (x0 : Vec F S1x32x1024 .f32) (x1 : Vec F S1x64x1024 .f32) (x2 : Vec F S1x64x1024 .f32) (x3 : Vec F S1x64x1024 .f32) (x4 : Vec F S1x64x1024 .f32) (x5 : Vec F S1x64x1024 .f32) (x6 : Vec F S1x64x1024 .f32) (x7 : Vec F S1x64x1024 .f32) (x8 : Vec F S1x64x1024 .f32) (x9 : Vec F S1x64x1024 .f32) (x10 : Vec F S1x64x1024 .f32) (x11 : Vec F S1x64x1024 .f32) (x12 : Vec F S1x64x1024 .f32) (x13 : Vec F S1x64x1024 .f32) (x14 : Vec F S1x64x1024 .f32) (x15 : Vec F S1x64x1024 .f32) (x16 : Vec F S1x64x1024 .f32) (x17 : Vec F S1x64x1024 .f32) (x18 : Vec F S1x64x1024 .f32) (x19 : Vec F S1x64x1024 .f32) (x20 : Vec F S1x64x1024 .f32) (x21 : Vec F S1x64x1024 .f32) (x22 : Vec F S1x64x1024 .f32) (x23 : Vec F S1x64x1024 .f32) (x24 : Vec F S1x64x1024 .f32) (x25 : Vec F S1x64x1024 .f32) (x26 : Vec F S1x64x1024 .f32) (x27 : Vec F S1x64x1024 .f32) (x28 : Vec F S1x64x1024 .f32) (xt0 : TbBuf0 (F := F) c tbM0_0) (xt1 : TbBuf0 (F := F) c tbM0_1) (xt2 : TbBuf0 (F := F) c tbM0_2) (xt3 : TbBuf0 (F := F) c tbM0_3) (y : S1x8x4x128.Idx) :
    ∃ pc ∈ (kernelRun0_A c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 x26 x27 x28 xt0 xt1 xt2 xt3).1, y ∈ pc.1.set :=
  View.cover_of_tiledL (kernelRun0_A c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 x26 x27 x28 xt0 xt1 xt2 xt3).1 S1x1x4x128.size (by sl_kernel_rfl) y

/-- What the run leaves in output 29's staging buffer: its pieces read back over junk. -/
def out0_A_29 (c : Dev nD) (i : grid0.Coords) (arg5 : Memref sig .tc .vmem S1x32x1024 .f32) (harg5 : arg5.IsWhole) (arg6 : Memref sig .tc .vmem S1x64x1024 .f32) (harg6 : arg6.IsWhole) (arg7 : Memref sig .tc .vmem S1x64x1024 .f32) (harg7 : arg7.IsWhole) (arg8 : Memref sig .tc .vmem S1x64x1024 .f32) (harg8 : arg8.IsWhole) (arg9 : Memref sig .tc .vmem S1x64x1024 .f32) (harg9 : arg9.IsWhole) (arg10 : Memref sig .tc .vmem S1x64x1024 .f32) (harg10 : arg10.IsWhole) (arg11 : Memref sig .tc .vmem S1x64x1024 .f32) (harg11 : arg11.IsWhole) (arg12 : Memref sig .tc .vmem S1x64x1024 .f32) (harg12 : arg12.IsWhole) (arg13 : Memref sig .tc .vmem S1x64x1024 .f32) (harg13 : arg13.IsWhole) (arg14 : Memref sig .tc .vmem S1x64x1024 .f32) (harg14 : arg14.IsWhole) (arg15 : Memref sig .tc .vmem S1x64x1024 .f32) (harg15 : arg15.IsWhole) (arg16 : Memref sig .tc .vmem S1x64x1024 .f32) (harg16 : arg16.IsWhole) (arg17 : Memref sig .tc .vmem S1x64x1024 .f32) (harg17 : arg17.IsWhole) (arg18 : Memref sig .tc .vmem S1x64x1024 .f32) (harg18 : arg18.IsWhole) (arg19 : Memref sig .tc .vmem S1x64x1024 .f32) (harg19 : arg19.IsWhole) (arg20 : Memref sig .tc .vmem S1x64x1024 .f32) (harg20 : arg20.IsWhole) (arg21 : Memref sig .tc .vmem S1x64x1024 .f32) (harg21 : arg21.IsWhole) (arg22 : Memref sig .tc .vmem S1x64x1024 .f32) (harg22 : arg22.IsWhole) (arg23 : Memref sig .tc .vmem S1x64x1024 .f32) (harg23 : arg23.IsWhole) (arg24 : Memref sig .tc .vmem S1x64x1024 .f32) (harg24 : arg24.IsWhole) (arg25 : Memref sig .tc .vmem S1x64x1024 .f32) (harg25 : arg25.IsWhole) (arg26 : Memref sig .tc .vmem S1x64x1024 .f32) (harg26 : arg26.IsWhole) (arg27 : Memref sig .tc .vmem S1x64x1024 .f32) (harg27 : arg27.IsWhole) (arg28 : Memref sig .tc .vmem S1x64x1024 .f32) (harg28 : arg28.IsWhole) (arg29 : Memref sig .tc .vmem S1x64x1024 .f32) (harg29 : arg29.IsWhole) (arg30 : Memref sig .tc .vmem S1x64x1024 .f32) (harg30 : arg30.IsWhole) (arg31 : Memref sig .tc .vmem S1x64x1024 .f32) (harg31 : arg31.IsWhole) (arg32 : Memref sig .tc .vmem S1x64x1024 .f32) (harg32 : arg32.IsWhole) (arg33 : Memref sig .tc .vmem S1x64x1024 .f32) (harg33 : arg33.IsWhole) (arg34 : Memref sig .tc .vmem S1x8x4x128 .f32) (harg34 : arg34.IsWhole)
    (x0 : Vec F S1x32x1024 .f32) (x1 : Vec F S1x64x1024 .f32) (x2 : Vec F S1x64x1024 .f32) (x3 : Vec F S1x64x1024 .f32) (x4 : Vec F S1x64x1024 .f32) (x5 : Vec F S1x64x1024 .f32) (x6 : Vec F S1x64x1024 .f32) (x7 : Vec F S1x64x1024 .f32) (x8 : Vec F S1x64x1024 .f32) (x9 : Vec F S1x64x1024 .f32) (x10 : Vec F S1x64x1024 .f32) (x11 : Vec F S1x64x1024 .f32) (x12 : Vec F S1x64x1024 .f32) (x13 : Vec F S1x64x1024 .f32) (x14 : Vec F S1x64x1024 .f32) (x15 : Vec F S1x64x1024 .f32) (x16 : Vec F S1x64x1024 .f32) (x17 : Vec F S1x64x1024 .f32) (x18 : Vec F S1x64x1024 .f32) (x19 : Vec F S1x64x1024 .f32) (x20 : Vec F S1x64x1024 .f32) (x21 : Vec F S1x64x1024 .f32) (x22 : Vec F S1x64x1024 .f32) (x23 : Vec F S1x64x1024 .f32) (x24 : Vec F S1x64x1024 .f32) (x25 : Vec F S1x64x1024 .f32) (x26 : Vec F S1x64x1024 .f32) (x27 : Vec F S1x64x1024 .f32) (x28 : Vec F S1x64x1024 .f32) (xt0 : TbBuf0 (F := F) c tbM0_0) (xt1 : TbBuf0 (F := F) c tbM0_1) (xt2 : TbBuf0 (F := F) c tbM0_2) (xt3 : TbBuf0 (F := F) c tbM0_3) : Vec F S1x8x4x128 .f32 :=
  VO0_29.read (Elt F) (VO0_29.writes (Elt F) VO0_29.junk (kernelRun0_A c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 x26 x27 x28 xt0 xt1 xt2 xt3).1)

/-! ## What the outputs hold after each point -/

/-- What the outputs' staging buffers hold after the body at point `t`: the run's contents at
    the point's memrefs and input blocks. -/
def outsAt0 (hO : Ok m) (c : Dev nD) (t : Fin (cfgM m hO).N) : Vec F S1x8x4x128 .f32 :=
  out0_A_29 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (tbl m 0) (tbl m 1) (tbl m 2) (tbl m 3)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => iblk m hO c 26 t
    | ⟨27, _⟩ => iblk m hO c 27 t
    | ⟨28, _⟩ => iblk m hO c 28 t
    | ⟨29, _⟩ => (outsAt0 m hO c t)
    | ⟨_ + 30, h⟩ => absurd h (Nat.not_lt.2 (Nat.le_add_left _ _))
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = iblk m hO c 18 t := by dsimp only [dats]; try rfl
theorem after0_19 (hO : Ok m) (c : Dev nD) (t : Fin (cfgM m hO).N) : (dats m hO 0 c).after 19 t = iblk m hO c 19 t := by dsimp only [dats]; try rfl
theorem after0_20 (hO : Ok m) (c : Dev nD) (t : Fin (cfgM m hO).N) : (dats m hO 0 c).after 20 t = iblk m hO c 20 t := by dsimp only [dats]; try rfl
theorem after0_21 (hO : Ok m) (c : Dev nD) (t : Fin (cfgM m hO).N) : (dats m hO 0 c).after 21 t = iblk m hO c 21 t := by dsimp only [dats]; try rfl
theorem after0_22 (hO : Ok m) (c : Dev nD) (t : Fin (cfgM m hO).N) : (dats m hO 0 c).after 22 t = iblk m hO c 22 t := by dsimp only [dats]; try rfl
theorem after0_23 (hO : Ok m) (c : Dev nD) (t : Fin (cfgM m hO).N) : (dats m hO 0 c).after 23 t = iblk m hO c 23 t := by dsimp only [dats]; try rfl
theorem after0_24 (hO : Ok m) (c : Dev nD) (t : Fin (cfgM m hO).N) : (dats m hO 0 c).after 24 t = iblk m hO c 24 t := by dsimp only [dats]; try rfl
theorem after0_25 (hO : Ok m) (c : Dev nD) (t : Fin (cfgM m hO).N) : (dats m hO 0 c).after 25 t = iblk m hO c 25 t := by dsimp only [dats]; try rfl
theorem after0_26 (hO : Ok m) (c : Dev nD) (t : Fin (cfgM m hO).N) : (dats m hO 0 c).after 26 t = iblk m hO c 26 t := by dsimp only [dats]; try rfl
theorem after0_27 (hO : Ok m) (c : Dev nD) (t : Fin (cfgM m hO).N) : (dats m hO 0 c).after 27 t = iblk m hO c 27 t := by dsimp only [dats]; try rfl
theorem after0_28 (hO : Ok m) (c : Dev nD) (t : Fin (cfgM m hO).N) : (dats m hO 0 c).after 28 t = iblk m hO c 28 t := by dsimp only [dats]; try rfl
theorem after0_29 (hO : Ok m) (c : Dev nD) (t : Fin (cfgM m hO).N) : (dats m hO 0 c).after 29 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d
theorem before0_19 (hO : Ok m) (c : Dev nD) (t : Fin (cfgM m hO).N) (d) : (dats m hO 0 c).before 19 t d = iblk m hO c 19 t :=
  before0_19_of m hO (dats m hO 0 c) (A_eq m hO c 19) (after0_19 m hO c) t d
theorem before0_20 (hO : Ok m) (c : Dev nD) (t : Fin (cfgM m hO).N) (d) : (dats m hO 0 c).before 20 t d = iblk m hO c 20 t :=
  before0_20_of m hO (dats m hO 0 c) (A_eq m hO c 20) (after0_20 m hO c) t d
theorem before0_21 (hO : Ok m) (c : Dev nD) (t : Fin (cfgM m hO).N) (d) : (dats m hO 0 c).before 21 t d = iblk m hO c 21 t :=
  before0_21_of m hO (dats m hO 0 c) (A_eq m hO c 21) (after0_21 m hO c) t d
theorem before0_22 (hO : Ok m) (c : Dev nD) (t : Fin (cfgM m hO).N) (d) : (dats m hO 0 c).before 22 t d = iblk m hO c 22 t :=
  before0_22_of m hO (dats m hO 0 c) (A_eq m hO c 22) (after0_22 m hO c) t d
theorem before0_23 (hO : Ok m) (c : Dev nD) (t : Fin (cfgM m hO).N) (d) : (dats m hO 0 c).before 23 t d = iblk m hO c 23 t :=
  before0_23_of m hO (dats m hO 0 c) (A_eq m hO c 23) (after0_23 m hO c) t d
theorem before0_24 (hO : Ok m) (c : Dev nD) (t : Fin (cfgM m hO).N) (d) : (dats m hO 0 c).before 24 t d = iblk m hO c 24 t :=
  before0_24_of m hO (dats m hO 0 c) (A_eq m hO c 24) (after0_24 m hO c) t d
theorem before0_25 (hO : Ok m) (c : Dev nD) (t : Fin (cfgM m hO).N) (d) : (dats m hO 0 c).before 25 t d = iblk m hO c 25 t :=
  before0_25_of m hO (dats m hO 0 c) (A_eq m hO c 25) (after0_25 m hO c) t d
theorem before0_26 (hO : Ok m) (c : Dev nD) (t : Fin (cfgM m hO).N) (d) : (dats m hO 0 c).before 26 t d = iblk m hO c 26 t :=
  before0_26_of m hO (dats m hO 0 c) (A_eq m hO c 26) (after0_26 m hO c) t d
theorem before0_27 (hO : Ok m) (c : Dev nD) (t : Fin (cfgM m hO).N) (d) : (dats m hO 0 c).before 27 t d = iblk m hO c 27 t :=
  before0_27_of m hO (dats m hO 0 c) (A_eq m hO c 27) (after0_27 m hO c) t d
theorem before0_28 (hO : Ok m) (c : Dev nD) (t : Fin (cfgM m hO).N) (d) : (dats m hO 0 c).before 28 t d = iblk m hO c 28 t :=
  before0_28_of m hO (dats m hO 0 c) (A_eq m hO c 28) (after0_28 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d))
    ∗ (∃ d, owns (c : Thread nD τ) (ms0_24 m hO t) fullShare ((dats m hO 0 c).before 24 t d))
    ∗ (∃ d, owns (c : Thread nD τ) (ms0_25 m hO t) fullShare ((dats m hO 0 c).before 25 t d))
    ∗ (∃ d, owns (c : Thread nD τ) (ms0_26 m hO t) fullShare ((dats m hO 0 c).before 26 t d))
    ∗ (∃ d, owns (c : Thread nD τ) (ms0_27 m hO t) fullShare ((dats m hO 0 c).before 27 t d))
    ∗ (∃ d, owns (c : Thread nD τ) (ms0_28 m hO t) fullShare ((dats m hO 0 c).before 28 t d))
    ∗ (∃ d, owns (c : Thread nD τ) (ms0_29 m hO t) fullShare ((dats m hO 0 c).before 29 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t)
    ∗ owns (c : Thread nD τ) (ms0_16 m hO t) fullShare ((dats m hO 0 c).after 16 t)
    ∗ owns (c : Thread nD τ) (ms0_17 m hO t) fullShare ((dats m hO 0 c).after 17 t)
    ∗ owns (c : Thread nD τ) (ms0_18 m hO t) fullShare ((dats m hO 0 c).after 18 t)
    ∗ owns (c : Thread nD τ) (ms0_19 m hO t) fullShare ((dats m hO 0 c).after 19 t)
    ∗ owns (c : Thread nD τ) (ms0_20 m hO t) fullShare ((dats m hO 0 c).after 20 t)
    ∗ owns (c : Thread nD τ) (ms0_21 m hO t) fullShare ((dats m hO 0 c).after 21 t)
    ∗ owns (c : Thread nD τ) (ms0_22 m hO t) fullShare ((dats m hO 0 c).after 22 t)
    ∗ owns (c : Thread nD τ) (ms0_23 m hO t) fullShare ((dats m hO 0 c).after 23 t)
    ∗ owns (c : Thread nD τ) (ms0_24 m hO t) fullShare ((dats m hO 0 c).after 24 t)
    ∗ owns (c : Thread nD τ) (ms0_25 m hO t) fullShare ((dats m hO 0 c).after 25 t)
    ∗ owns (c : Thread nD τ) (ms0_26 m hO t) fullShare ((dats m hO 0 c).after 26 t)
    ∗ owns (c : Thread nD τ) (ms0_27 m hO t) fullShare ((dats m hO 0 c).after 27 t)
    ∗ owns (c : Thread nD τ) (ms0_28 m hO t) fullShare ((dats m hO 0 c).after 28 t)
    ∗ owns (c : Thread nD τ) (ms0_29 m hO t) fullShare ((dats m hO 0 c).after 29 t))

set_option maxHeartbeats 2800000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29]
  rw [show (dats m hO 0 c).Φ t.castSucc = iprop(Pipeline.ΦA spec0 c ∗ Pipeline.ΦT pre0 (tbl m) c) from rfl, PhiT0_eq]
  unfold outsAt0
  unfold out0_A_29
  iintro ⟨⟨HΦ, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (tbl m 0) (tbl m 1) (tbl m 2) (tbl m 3)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexists _; iexact H29
  isplitl [HT0]; · iexact HT0
  isplitl [HT1]; · iexact HT1
  isplitl [HT2]; · iexact HT2
  isplitl [HT3]; · iexact HT3
  iintro ⟨H0, H1, H2, H3, H4, H5, H6, H7, H8, H9, H10, H11, H12, H13, H14, H15, H16, H17, H18, H19, H20, H21, H22, H23, H24, H25, H26, H27, H28, ⟨%e29, H29⟩, HT0, HT1, HT2, HT3⟩
  isplitl [HΦ HT0 HT1 HT2 HT3]
  · isplitl [HΦ]
    · iexact HΦ
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  unfold owns; iexists _; isplitr
  swap; · iexact H29
  ipureintro; exact View.read_writes_of_cover _ _ _ _ _ (cover0_A_29 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 8000000 in
/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP_around_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.KernelIdeal.Gen

end
-- ==== Proof.Real.Host.lean ====
/- What the host part of `Cert.KernelIdeal` leaves in the kernel's tables, read off its operations: the tables are the functions of
   the context lengths that `Cert.Tables` names. -/
module

public import proofs.«01_k».proof.Proof.Real.Runs
public import proofs.«01_k».proof.Proof.Tables
public import Idealize.ShloMosaic.Lib.StableHlo.RunRead
public import Idealize.ShloMosaic.Lib.Pipeline.Value

@[expose] public section

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo
open Cert.Tables

variable {F : FTy → Type} [FloatOps F]

/-- The buffers' contents, as the operations take them. -/
local notation "𝕍" => Valuation τ sig (Elt F)

/-! ## The host part in seven lines -/

abbrev opsA : List (HloOp τ sig (Elt F)) := List.flatten [hostOps0, hostOps0_1]
abbrev opsB : List (HloOp τ sig (Elt F)) := List.flatten [hostOps0_2, hostOps0_3, hostOps0_4, hostOps0_5]
abbrev opsC : List (HloOp τ sig (Elt F)) := List.flatten [hostOps0_6, hostOps0_7]
abbrev opsD : List (HloOp τ sig (Elt F)) := List.flatten [hostOps0_8, hostOps0_9]
abbrev opsE : List (HloOp τ sig (Elt F)) := List.flatten [hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71]
abbrev opsF : List (HloOp τ sig (Elt F)) := List.flatten [hostOps0_72]
abbrev opsG : List (HloOp τ sig (Elt F)) := List.flatten [hostOps0_73, hostOps0_74]

/-- The whole host part is the seven lines one after another. -/
theorem after_all (X : 𝕍) :
    after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74]) X
      = after opsG (after opsF (after opsE (after opsD (after opsC (after opsB (after opsA X)))))) := by
  rw [← after_append, ← after_append, ← after_append, ← after_append, ← after_append, ← after_append]
  simp only [← List.flatten_append]
  rfl

/-! ## Each line's reads, at any contents before it -/

theorem readA_v1 (X : 𝕍) : after opsA X (Proc.devRef .tc main_v1) = lastPos (X (Proc.devRef .tc main_arg4)) := by
  after_reads_simp
  rfl

theorem readA_v2 (X : 𝕍) : after opsA X (Proc.devRef .tc main_v2) = qBlock (lastPos (X (Proc.devRef .tc main_arg4))) := by
  after_reads_simp
  rfl

theorem readB_v29 (X : 𝕍) : after opsB X (Proc.devRef .tc main_v29) = keys (X (Proc.devRef .tc main_v2)) := by
  after_reads_simp
  rfl

theorem readC_v31 (X : 𝕍) : after opsC X (Proc.devRef .tc main_v31) = front (X (Proc.devRef .tc main_v29)) := by
  after_reads_simp
  rfl

theorem readC_v33 (X : 𝕍) : after opsC X (Proc.devRef .tc main_v33) = valid (front (X (Proc.devRef .tc main_v29))) := by
  after_reads_simp
  rfl

theorem readC_v35 (X : 𝕍) : after opsC X (Proc.devRef .tc main_v35) = count (valid (front (X (Proc.devRef .tc main_v29)))) := by
  after_reads_simp
  rfl

theorem readC_v38 (X : 𝕍) :
    after opsC X (Proc.devRef .tc main_v38) = lastAt (count (valid (front (X (Proc.devRef .tc main_v29))))) := by
  after_reads_simp
  rfl

theorem readD_v40 (X : 𝕍) : after opsD X (Proc.devRef .tc main_v40)
    = select (X (Proc.devRef .tc main_v33) : IVec S32x14 1) (X (Proc.devRef .tc main_v31))
        (broadcastInDim S32x14 ![0, 1] bcast_S32x1_S32x14_0_1
          (keyAt (X (Proc.devRef .tc main_v31)) (wrapAt (X (Proc.devRef .tc main_v38))))) := by
  after_reads_simp
  rfl

/-! ## The tables after the first four lines -/

/-- The four lines that make the lists. -/
abbrev afterD (X : 𝕍) : 𝕍 := after opsD (after opsC (after opsB (after opsA X)))

/-- The list's keys, from the lengths. -/
abbrev ctxFront (ctx : IVec S32 32) : IVec S32x14 32 := front (keys (qBlock (lastPos ctx)))

theorem afterD_v33 (X : 𝕍) : afterD X (Proc.devRef .tc main_v33) = valid (ctxFront (X (Proc.devRef .tc main_arg4))) := by
  have h (Y : 𝕍) : after opsD Y (Proc.devRef .tc main_v33) = Y (Proc.devRef .tc main_v33) := by after_reads_simp
  rw [afterD, h, readC_v33, readB_v29, readA_v2]

theorem afterD_v35 (X : 𝕍) : afterD X (Proc.devRef .tc main_v35) = count (valid (ctxFront (X (Proc.devRef .tc main_arg4)))) := by
  have h (Y : 𝕍) : after opsD Y (Proc.devRef .tc main_v35) = Y (Proc.devRef .tc main_v35) := by after_reads_simp
  rw [afterD, h, readC_v35, readB_v29, readA_v2]

theorem afterD_v1 (X : 𝕍) : afterD X (Proc.devRef .tc main_v1) = lastPos (X (Proc.devRef .tc main_arg4)) := by
  have h (Y : 𝕍) : after opsD (after opsC (after opsB Y)) (Proc.devRef .tc main_v1) = Y (Proc.devRef .tc main_v1) := by
    after_reads_simp
  rw [afterD, h, readA_v1]

theorem afterD_v40 (X : 𝕍) : afterD X (Proc.devRef .tc main_v40) = blocks (ctxFront (X (Proc.devRef .tc main_arg4))) := by
  rw [afterD, readD_v40, readC_v31, readC_v33, readC_v38, readB_v29, readA_v2]
  rfl

end Cert.KernelIdeal.Host
-- ==== Proof.Real.Rows.lean ====
/- The rows of store places that the host part of `Cert.KernelIdeal` makes, one over the row before. -/
module

public import proofs.«01_k».proof.Proof.Real.Host

@[expose] public section

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo
open Cert.Tables

variable {F : FTy → Type} [FloatOps F]

/-- The buffers' contents, as the operations take them. -/
local notation "𝕍" => Valuation τ sig (Elt F)

/-! ## The rows of store places -/

/-- The thirty-two rows' buffers. -/
abbrev rowBuf (X : 𝕍) : Fin 32 → S14.Idx → BitVec 32 :=
  ![X (Proc.devRef .tc main_v48), X (Proc.devRef .tc main_v53), X (Proc.devRef .tc main_v58), X (Proc.devRef .tc main_v63), X (Proc.devRef .tc main_v68), X (Proc.devRef .tc main_v73), X (Proc.devRef .tc main_v78), X (Proc.devRef .tc main_v83), X (Proc.devRef .tc main_v88), X (Proc.devRef .tc main_v93), X (Proc.devRef .tc main_v98), X (Proc.devRef .tc main_v103), X (Proc.devRef .tc main_v108), X (Proc.devRef .tc main_v113), X (Proc.devRef .tc main_v118), X (Proc.devRef .tc main_v123), X (Proc.devRef .tc main_v128), X (Proc.devRef .tc main_v133), X (Proc.devRef .tc main_v138), X (Proc.devRef .tc main_v143), X (Proc.devRef .tc main_v148), X (Proc.devRef .tc main_v153), X (Proc.devRef .tc main_v158), X (Proc.devRef .tc main_v163), X (Proc.devRef .tc main_v168), X (Proc.devRef .tc main_v173), X (Proc.devRef .tc main_v178), X (Proc.devRef .tc main_v183), X (Proc.devRef .tc main_v188), X (Proc.devRef .tc main_v193), X (Proc.devRef .tc main_v198), X (Proc.devRef .tc main_v203)]

set_option maxHeartbeats 0 in
theorem rows_read (X : 𝕍) (b : Fin 32) :
    rowBuf (after opsE X) b = chain (X (Proc.devRef .tc main_v33)) (flat (X (Proc.devRef .tc main_v40))) b := by
  fin_cases b
  all_goals
    simp only [rowBuf, Fin.zero_eta, Fin.mk_one, Fin.reduceFinMk, Matrix.cons_val]
    after_reads_simp
    iterate 31 try refine chain_succ _ (flat (X (Proc.devRef .tc main_v40))) _ (by decide) (by decide) (by decide) _ ?_
    exact chain_zero _ (flat (X (Proc.devRef .tc main_v40))) (by decide) (by decide)

end Cert.KernelIdeal.Host
-- ==== Proof.Real.Launched.lean ====
/- The tables that the kernel of `Cert.KernelIdeal` is launched with, from the context lengths. -/
module

public import proofs.«01_k».proof.Proof.Real.Rows

@[expose] public section

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo
open Cert.Tables

variable {F : FTy → Type} [FloatOps F]

/-- The buffers' contents, as the operations take them. -/
local notation "𝕍" => Valuation τ sig (Elt F)

set_option maxHeartbeats 0 in
/-- The table of store places after the next line: row `b` of it is the `b`-th row's buffer. -/
theorem readF_v238 (X : 𝕍) (b : Fin 32) (i : Fin 14) :
    (after opsF X (Proc.devRef .tc main_v238) : IVec S32x14 32) (ix2 b i) = rowBuf X b (ix1 i) := by
  fin_cases b
  all_goals
    simp only [rowBuf, Fin.zero_eta, Fin.mk_one, Fin.reduceFinMk, Matrix.cons_val]
    after_reads_simp
    pointwise
    after_reads_simp
    pointwise

/-- The lines after the lists keep the lists. -/
theorem keep_v40 (X : 𝕍) : after opsG (after opsF (after opsE X)) (Proc.devRef .tc main_v40) = X (Proc.devRef .tc main_v40) := by
  after_reads_simp

theorem keep_v35 (X : 𝕍) : after opsG (after opsF (after opsE X)) (Proc.devRef .tc main_v35) = X (Proc.devRef .tc main_v35) := by
  after_reads_simp

theorem keep_v1 (X : 𝕍) : after opsG (after opsF (after opsE X)) (Proc.devRef .tc main_v1) = X (Proc.devRef .tc main_v1) := by
  after_reads_simp

theorem keepG_v238 (X : 𝕍) : after opsG X (Proc.devRef .tc main_v238) = X (Proc.devRef .tc main_v238) := by
  after_reads_simp

/-! ## The four tables the kernel is launched with -/

variable (m : (ℓ : Loc nD τ sig) → Buf (Elt F) ℓ)

/-- The context lengths on a device. -/
abbrev ctx (c : Dev nD) : IVec S32 32 := m ((c.tc : Thread nD τ).loc main_arg4)

theorem V_v1 (c : Dev nD) : V m c main_v1 = lastPos (ctx m c) := by
  show after _ _ _ = _
  rw [after_all, keep_v1]
  exact afterD_v1 _

theorem V_v35 (c : Dev nD) : V m c main_v35 = count (valid (ctxFront (ctx m c))) := by
  show after _ _ _ = _
  rw [after_all, keep_v35]
  exact afterD_v35 _

theorem V_v40 (c : Dev nD) : V m c main_v40 = blocks (ctxFront (ctx m c)) := by
  show after _ _ _ = _
  rw [after_all, keep_v40]
  exact afterD_v40 _

theorem V_v238 (c : Dev nD) (b : Fin 32) (i : Fin 14) :
    (V m c main_v238 : IVec S32x14 32) (ix2 b i)
      = chain (valid (ctxFront (ctx m c))) (flat (blocks (ctxFront (ctx m c)))) b (ix1 i) := by
  refine (congrFun ((congrFun (after_all _) _).trans (keepG_v238 _)) _).trans ?_
  refine (readF_v238 _ b i).trans ?_
  refine (congrFun (rows_read _ b) _).trans ?_
  exact congrArg₂ (fun v f => chain v (flat f) b (ix1 i)) (afterD_v33 _) (afterD_v40 _)

/-- Every entry of the table of store places is a place. -/
theorem place_lt (c : Dev nD) (j : S32x14.Idx) : ((V m c main_v238 : IVec S32x14 32) j).toNat < 1024 := by
  obtain ⟨b, i, rfl⟩ : ∃ b i, j = ix2 b i := ⟨j 0, j 1, by funext a; fin_cases a <;> rfl⟩
  rw [V_v238]
  exact chain_lt _ b b.isLt i

/-- A table of places whose every entry is a place keeps every window inside its array. -/
theorem ok_of_places (pf : pre0.Contents (Elt F)) (key : ∀ j : S32x14.Idx, ((pf 0 : IVec S32x14 32) j).toNat < 1024) : ok0 pf := by
  have main : ∀ j : S32x14.Idx, ∀ a : Fin 3,
      (![((pf 0 : IVec S32x14 32) j).toNat, 0, 0] a + 1) * S1x64x1024.size a ≤ S1024x64x1024.size a := by
    intro j a
    have := key j
    fin_cases a
    · show (((pf 0 : IVec S32x14 32) j).toNat + 1) * 1 ≤ 1024; omega
    · show (0 + 1) * 64 ≤ 64; omega
    · show (0 + 1) * 1024 ≤ 1024; omega
  refine ⟨?_, ?_, ?_, ?_, ?_, ?_, ?_, ?_, ?_, ?_, ?_, ?_, ?_, ?_, ?_, ?_, ?_, ?_, ?_, ?_, ?_, ?_, ?_, ?_, ?_, ?_, ?_, ?_⟩ <;>
    exact fun i => ⟨fun a => main _ a, Or.inl rfl⟩

/-- The tables stay inside the arrays. -/
theorem ok : Ok m := ok_of_places _ (place_lt m 0)

end Cert.KernelIdeal.Host
-- ==== Proof.Real.Stores.lean ====
/- The arrays that the windows of `Cert.KernelIdeal` are cut from: queries spread over the key heads, and the two stores. -/
module

public import proofs.«01_k».proof.Proof.Real.Launched

@[expose] public section

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo
open Cert.Tables

variable {F : FTy → Type} [FloatOps F] [Named F]

/-- The buffers' contents, as the operations take them. -/
local notation "𝕍" => Valuation τ sig (Elt F)

/-- A scalar spread over a column. -/
abbrev column (x : IVec S_ 32) : IVec S32x1 32 := broadcastInDim S32x1 ![] bcast_S_S32x1 x

/-- A column divided by a scalar, rounded down. -/
def floorDiv (a : IVec S32x1 32) (d : IVec S_ 32) : IVec S32x1 32 :=
  select (andi (cmpi .ne (signi a) (column (signi d))) (cmpi .ne (Host.remsi a (column d)) (column (constantI S_ 32 0#32))))
    (subi (Host.divsi a (column d)) (column (constantI S_ 32 1#32))) (Host.divsi a (column d))

/-- Which key head each query head reads. -/
def picks : IVec S32x8 1 :=
  cmpi .eq
    (broadcastInDim S32x8 ![0, 1] bcast_S32x1_S32x8_0_1
      (floorDiv (broadcastInDim S32x1 ![0] bcast_S32_S32x1_0 (iotaInDim S32 32 0)) (constantI S_ 32 4#32)))
    (broadcastInDim S32x8 ![0, 1] bcast_S1x8_S32x8_0_1 (broadcastInDim S1x8 ![1] bcast_S8_S1x8_1 (iotaInDim S8 32 0)))

theorem picks_at : ∀ (h : Fin 32) (kv : Fin 8), picks (ix2 h kv) = if h.val / 4 = kv.val then 1#1 else 0#1 := by decide +kernel

/-- The queries, each spread over the key heads: kept at its own, zero at the others. -/
def spread (q : FVec F S32x32x128 .f32) : FVec F S32x32x1024 .f32 :=
  shapeCast S32x32x1024
    (mulf (F := F)
      (broadcastInDim S32x32x8x128 ![0, 1, 2, 3] bcast_S32x32x1x128_S32x32x8x128_0_1_2_3
        (broadcastInDim S32x32x1x128 ![0, 1, 3] bcast_S32x32x128_S32x32x1x128_0_1_3 q))
      (broadcastInDim S32x32x8x128 ![0, 1, 2, 3] bcast_S1x32x8x1_S32x32x8x128_0_1_2_3
        (broadcastInDim S1x32x8x1 ![1, 2] bcast_S32x8_S1x32x8x1_1_2 (uitofp .f32 picks : FVec F S32x8 .f32))))
    shapeCasts_S32x32x8x128_S32x32x1024

theorem readG_v246 (X : 𝕍) : after opsG (after opsF X) (Proc.devRef .tc main_v246) = picks := by
  after_reads_simp
  rfl

theorem readG_v253 (X : 𝕍) : after opsG (after opsF X) (Proc.devRef .tc main_v253) = spread (X (Proc.devRef .tc main_arg0)) := by
  after_reads_simp
  rfl

theorem readG_v254 (X : 𝕍) : after opsG (after opsF X) (Proc.devRef .tc main_v254)
    = shapeCast S1024x64x1024 (after opsG (after opsF X) (Proc.devRef .tc main_arg1) : FVec F S4096x16x8x128 .f32) shapeCasts_S4096x16x8x128_S1024x64x1024 := by
  after_reads_simp
  rfl

theorem readG_v255 (X : 𝕍) : after opsG (after opsF X) (Proc.devRef .tc main_v255)
    = shapeCast S1024x64x1024 (after opsG (after opsF X) (Proc.devRef .tc main_arg2) : FVec F S4096x16x8x128 .f32) shapeCasts_S4096x16x8x128_S1024x64x1024 := by
  after_reads_simp
  rfl

theorem keep_arg0 (X : 𝕍) : after opsG (after opsF X) (Proc.devRef .tc main_arg0) = X (Proc.devRef .tc main_arg0) := by
  after_reads_simp

variable (m : (ℓ : Loc nD τ sig) → Buf (Elt F) ℓ)

theorem V_v253 (c : Dev nD) : V m c main_v253 = spread (m ((c : Thread nD τ).loc main_arg0)) := by
  have e := V_main_arg0 m c
  change after _ _ _ = _ at e
  show after _ _ _ = _
  rw [after_all, keep_arg0] at e
  rw [after_all, readG_v253, e]

theorem V_v254 (c : Dev nD) : V m c main_v254
    = shapeCast S1024x64x1024 (m ((c : Thread nD τ).loc main_arg1) : FVec F S4096x16x8x128 .f32) shapeCasts_S4096x16x8x128_S1024x64x1024 := by
  have e := V_main_arg1 m c
  change after _ _ _ = _ at e
  show after _ _ _ = _
  rw [after_all] at e
  rw [after_all, readG_v254, e]

theorem V_v255 (c : Dev nD) : V m c main_v255
    = shapeCast S1024x64x1024 (m ((c : Thread nD τ).loc main_arg2) : FVec F S4096x16x8x128 .f32) shapeCasts_S4096x16x8x128_S1024x64x1024 := by
  have e := V_main_arg2 m c
  change after _ _ _ = _ at e
  show after _ _ _ = _
  rw [after_all] at e
  rw [after_all, readG_v255, e]

end Cert.KernelIdeal.Host
-- ==== Proof.Real.Steps.lean ====
/- The steps of the body of `Cert.KernelIdeal`: scores, weights, sums, and the eight stores. -/
module

public import proofs.«01_k».proof.Proof.Real.Frame
public import Idealize.ShloMosaic.Lib.Pipeline.Value
public import Idealize.ShloMosaic.Lib.Pointwise

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F] [Named F]

/-! ## The body's steps -/

/-- The scores of one key block: the scaled products, masked where the position is past the last one or the slot is not in use. -/
def score (na pos i id : BitVec 32) (qt : Vec F S1x32x1024 .f32) (k : Vec F S1x64x1024 .f32) : FVec F S32x64 .f32 :=
  select
    (broadcastTo S32x64
      (shapeCast S1x64
        (andi
          (cmpi .sle (addi (broadcast S1x64 (Scalar.muli id 64#32)) (iota .tc S1x64 32 [1] iota_S1x64_d1_w32)) (broadcast S1x64 pos))
          (broadcast S1x64 (Scalar.cmpi .sgt na i)))
        shapeCasts_S1x64_S1x64)
      broadcasts_S1x64_S32x64)
    (mulf
      (matmul dot_S32x1024_S64x1024_S32x64_1_1_0_0_n_n none (shapeCast S32x1024 qt shapeCasts_S1x32x1024_S32x1024)
        (shapeCast S64x1024 k shapeCasts_S1x64x1024_S64x1024) (constant S32x64 .f32 0x00000000#32))
      (broadcast S32x64 (Scalar.ofBits .f32 0x3DB504F3#32)))
    (broadcast S32x64 (Named.named κ "mask" 0xF149F2CA#32))

/-- Fourteen arrays joined by an operation, from the left. -/
def join {α : Type} (op : α → α → α) (s : Fin 14 → α) : α :=
  op (op (op (op (op (op (op (op (op (op (op (op (op (s 0) (s 1)) (s 2)) (s 3)) (s 4)) (s 5)) (s 6)) (s 7)) (s 8)) (s 9)) (s 10)) (s 11)) (s 12)) (s 13)

/-- The greatest score of each query row. -/
def top (s : Fin 14 → FVec F S32x64 .f32) : FVec F S32x1 .f32 :=
  shapeCast S32x1 (multiReduction .maximumf [1] S32 (join maximumf s) 0xFF800000#32 reduces_S32x64_S32 (.inl rfl) rfl)
    shapeCasts_S32_S32x1

/-- The weights of one block. -/
def weight (m : FVec F S32x1 .f32) (s : FVec F S32x64 .f32) : FVec F S32x64 .f32 :=
  exp (subf s (broadcastTo S32x64 m broadcasts_S32x1_S32x64))

/-- The sum of each query row's weights. -/
def total (p : Fin 14 → FVec F S32x64 .f32) : FVec F S32x1 .f32 :=
  shapeCast S32x1 (multiReduction .add [1] S32 (join addf p) 0x00000000#32 reduces_S32x64_S32 (.inl rfl) rfl) shapeCasts_S32_S32x1

/-- The weighted values of one block. -/
def part (p : FVec F S32x64 .f32) (v : Vec F S1x64x1024 .f32) : FVec F S32x1024 .f32 :=
  matmul dot_S32x64_S64x1024_S32x1024_1_0_0_1_n_n none p (shapeCast S64x1024 v shapeCasts_S1x64x1024_S64x1024)
    (constant S32x1024 .f32 0x00000000#32)

/-- The weighted values of all of them. -/
def mix (p : Fin 14 → FVec F S32x64 .f32) (v : Fin 14 → Vec F S1x64x1024 .f32) : FVec F S32x1024 .f32 :=
  join addf fun i => part (p i) (v i)

/-- One over the sums. -/
def recip (l : FVec F S32x1 .f32) : FVec F S32x1 .f32 := divf (broadcast S32x1 (Scalar.ofBits .f32 0x3F800000#32)) l

/-- The four query rows of a key head, scaled. -/
def head (g : FVec F S32x1024 .f32) (r : FVec F S32x1 .f32) (a b : ℕ) (h : S32x1024.Slices ![a, b] S4x128)
    (h' : S32x1.Slices ![a, 0] S4x1) : FVec F S1x1x4x128 .f32 :=
  shapeCast S1x1x4x128
    (mulf (extractStridedSlice S4x128 ![a, b] g h) (broadcastTo S4x128 (extractStridedSlice S4x1 ![a, 0] r h') broadcasts_S4x1_S4x128))
    shapeCasts_S4x128_S1x1x4x128

/-- The eight stores, the last one first. -/
def stores (g : FVec F S32x1024 .f32) (r : FVec F S32x1 .f32) : List (View.Piece (Elt F) S1x8x4x128 .f32) :=
  [ ⟨Rect.unit (s := S1x8x4x128) ![0, 7, 0, 0] S1x1x4x128.size inb_S1x8x4x128_S1x1x4x128_0_7_0_0, head g r 28 896 slices_S32x1024_o28_896_S4x128 slices_S32x1_o28_0_S4x1⟩,
    ⟨Rect.unit (s := S1x8x4x128) ![0, 6, 0, 0] S1x1x4x128.size inb_S1x8x4x128_S1x1x4x128_0_6_0_0, head g r 24 768 slices_S32x1024_o24_768_S4x128 slices_S32x1_o24_0_S4x1⟩,
    ⟨Rect.unit (s := S1x8x4x128) ![0, 5, 0, 0] S1x1x4x128.size inb_S1x8x4x128_S1x1x4x128_0_5_0_0, head g r 20 640 slices_S32x1024_o20_640_S4x128 slices_S32x1_o20_0_S4x1⟩,
    ⟨Rect.unit (s := S1x8x4x128) ![0, 4, 0, 0] S1x1x4x128.size inb_S1x8x4x128_S1x1x4x128_0_4_0_0, head g r 16 512 slices_S32x1024_o16_512_S4x128 slices_S32x1_o16_0_S4x1⟩,
    ⟨Rect.unit (s := S1x8x4x128) ![0, 3, 0, 0] S1x1x4x128.size inb_S1x8x4x128_S1x1x4x128_0_3_0_0, head g r 12 384 slices_S32x1024_o12_384_S4x128 slices_S32x1_o12_0_S4x1⟩,
    ⟨Rect.unit (s := S1x8x4x128) ![0, 2, 0, 0] S1x1x4x128.size inb_S1x8x4x128_S1x1x4x128_0_2_0_0, head g r 8 256 slices_S32x1024_o8_256_S4x128 slices_S32x1_o8_0_S4x1⟩,
    ⟨Rect.unit (s := S1x8x4x128) ![0, 1, 0, 0] S1x1x4x128.size inb_S1x8x4x128_S1x1x4x128_0_1_0_0, head g r 4 128 slices_S32x1024_o4_128_S4x128 slices_S32x1_o4_0_S4x1⟩,
    ⟨Rect.unit (s := S1x8x4x128) ![0, 0, 0, 0] S1x1x4x128.size inb_S1x8x4x128_S1x1x4x128_0_0_0_0, head g r 0 0 slices_S32x1024_o0_0_S4x128 slices_S32x1_o0_0_S4x1⟩ ]

/-- The scores of all fourteen blocks. -/
def scores (na pos : BitVec 32) (id : Fin 14 → BitVec 32) (qt : Vec F S1x32x1024 .f32) (k : Fin 14 → Vec F S1x64x1024 .f32) :
    Fin 14 → FVec F S32x64 .f32 := fun i => score na pos (BitVec.ofNat 32 i.val) (id i) qt (k i)

/-- Their weights. -/
def weights (s : Fin 14 → FVec F S32x64 .f32) : Fin 14 → FVec F S32x64 .f32 := fun i => weight (top s) (s i)

end Cert.KernelIdeal.Body
-- ==== Proof.Real.Body.lean ====
/- What the body of `Cert.KernelIdeal` computes at one point of the grid, as one function of the tables' entries, the query
   block, the fourteen key blocks and the fourteen value blocks. -/
module

public import proofs.«01_k».proof.Proof.Real.Steps
public import Idealize.ShloMosaic.Lib.Pipeline.Value
public import Idealize.ShloMosaic.Lib.Pointwise

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F] [Named F]

/-! ## The body's stores -/

/-- The point of the grid as a word. -/
abbrev word (i : grid0.Coords) : BitVec 32 := Scalar.indexCast (BitVec.ofNat 32 (i 0).val)

theorem score_forms (na pos id : BitVec 32) (q : Vec F S1x32x1024 .f32) (k : Vec F S1x64x1024 .f32) :
    k0_pay5 na pos q id k = score na pos 0#32 id q k
    ∧ k0_pay8 (k0_pay6 (F := F) na pos id) (k0_pay7 q k) (FloatOps.ofBits .f32 1035273459#32) = score na pos 1#32 id q k
    ∧ k0_pay9 na pos (k0_pay4 q) (iota .tc S1x64 32 [1] iota_S1x64_d1_w32) id k = score na pos 2#32 id q k
    ∧ k0_pay12 (k0_pay10 (k0_pay4 q) k) (Named.named κ "mask" 4048155338#32) (k0_pay11 (F := F) na pos (iota .tc S1x64 32 [1] iota_S1x64_d1_w32) id) = score na pos 3#32 id q k
    ∧ k0_pay13 na pos (k0_pay4 q) (iota .tc S1x64 32 [1] iota_S1x64_d1_w32) id k = score na pos 4#32 id q k
    ∧ k0_pay14 na pos (k0_pay4 q) (iota .tc S1x64 32 [1] iota_S1x64_d1_w32) id k = score na pos 5#32 id q k
    ∧ k0_pay15 na pos (k0_pay4 q) (iota .tc S1x64 32 [1] iota_S1x64_d1_w32) id k = score na pos 6#32 id q k
    ∧ k0_pay16 na pos (k0_pay4 q) (iota .tc S1x64 32 [1] iota_S1x64_d1_w32) id k = score na pos 7#32 id q k
    ∧ k0_pay17 na pos (k0_pay4 q) (iota .tc S1x64 32 [1] iota_S1x64_d1_w32) (Scalar.muli id 64#32) k = score na pos 8#32 id q k
    ∧ k0_pay18 na pos (k0_pay4 q) (iota .tc S1x64 32 [1] iota_S1x64_d1_w32) id k = score na pos 9#32 id q k
    ∧ k0_pay20 na (k0_pay4 q) (k0_pay19 (F := F) pos (iota .tc S1x64 32 [1] iota_S1x64_d1_w32) id) k = score na pos 10#32 id q k
    ∧ k0_pay21 na pos (k0_pay4 q) (iota .tc S1x64 32 [1] iota_S1x64_d1_w32) id k = score na pos 11#32 id q k
    ∧ k0_pay23 (k0_pay4 q) (k0_pay22 (F := F) na pos (iota .tc S1x64 32 [1] iota_S1x64_d1_w32) id) k = score na pos 12#32 id q k
    ∧ k0_pay24 na pos (k0_pay4 q) (iota .tc S1x64 32 [1] iota_S1x64_d1_w32) id k = score na pos 13#32 id q k :=
  ⟨rfl, rfl, rfl, rfl, rfl, rfl, rfl, rfl, rfl, rfl, rfl, rfl, rfl, rfl⟩

theorem top_forms (na pos id id1 : BitVec 32) (q : Vec F S1x32x1024 .f32) (k k1 : Vec F S1x64x1024 .f32) (s0 s1 s2 s3 s4 s5 s6 s7 s8 s9 s10 s11 : FVec F S32x64 .f32) :
    k0_pay25 na pos (k0_pay4 q) (iota .tc S1x64 32 [1] iota_S1x64_d1_w32) s0 s1 s2 s3 s4 s5 s6 s7 s8 s9 s10 s11 (k0_pay22 (F := F) na pos (iota .tc S1x64 32 [1] iota_S1x64_d1_w32) id) k id1 k1 = top ![s0, s1, s2, s3, s4, s5, s6, s7, s8, s9, s10, s11, score na pos 12#32 id q k, score na pos 13#32 id1 q k1]
    ∧ k0_pay26 na pos (k0_pay4 q) (iota .tc S1x64 32 [1] iota_S1x64_d1_w32) s0 s1 s2 s3 s4 s5 s6 s7 s8 s9 s10 s11 (k0_pay22 (F := F) na pos (iota .tc S1x64 32 [1] iota_S1x64_d1_w32) id) k id1 k1 = broadcastTo S32x64 (top ![s0, s1, s2, s3, s4, s5, s6, s7, s8, s9, s10, s11, score na pos 12#32 id q k, score na pos 13#32 id1 q k1]) broadcasts_S32x1_S32x64 := ⟨rfl, rfl⟩

theorem weight_forms (m : FVec F S32x1 .f32) (s : FVec F S32x64 .f32) :
    k0_pay27 s (broadcastTo S32x64 m broadcasts_S32x1_S32x64) = weight m s
    ∧ k0_pay28 s m = weight m s
    ∧ k0_pay29 s m = weight m s
    ∧ k0_pay30 s m = weight m s
    ∧ k0_pay31 s m = weight m s
    ∧ k0_pay32 s m = weight m s
    ∧ k0_pay33 s m = weight m s
    ∧ k0_pay34 s m = weight m s
    ∧ k0_pay35 s m = weight m s
    ∧ k0_pay36 s m = weight m s
    ∧ k0_pay37 s m = weight m s
    ∧ k0_pay38 s m = weight m s
    ∧ k0_pay39 s m = weight m s
    ∧ k0_pay40 s m = weight m s :=
  ⟨rfl, rfl, rfl, rfl, rfl, rfl, rfl, rfl, rfl, rfl, rfl, rfl, rfl, rfl⟩

theorem total_form (m : FVec F S32x1 .f32) (s0 s1 s2 s3 s4 s5 s6 s7 s8 s9 s10 s11 s12 s13 : FVec F S32x64 .f32) :
    k0_pay41 s0 s1 s2 s3 s4 s5 s6 s7 s8 s9 s10 s11 s12 s13 m (broadcastTo S32x64 m broadcasts_S32x1_S32x64) = total ![weight m s0, weight m s1, weight m s2, weight m s3, weight m s4, weight m s5, weight m s6, weight m s7, weight m s8, weight m s9, weight m s10, weight m s11, weight m s12, weight m s13] := rfl

theorem mix_form (p0 p1 p2 p3 p4 p5 p6 p7 p8 p9 p10 p11 p12 p13 : FVec F S32x64 .f32) (v0 v1 v2 v3 v4 v5 v6 v7 v8 v9 v10 v11 v12 v13 : Vec F S1x64x1024 .f32) :
    k0_pay43 p8 p9 p10 p11 p12 p13 (k0_pay42 p0 p1 p2 p3 p4 p5 p6 p7 v0 v1 v2 v3 v4 v5 v6 v7) v8 v9 v10 v11 v12 v13 = mix ![p0, p1, p2, p3, p4, p5, p6, p7, p8, p9, p10, p11, p12, p13] ![v0, v1, v2, v3, v4, v5, v6, v7, v8, v9, v10, v11, v12, v13] := rfl

theorem head_zero (l : FVec F S32x1 .f32) (p0 p1 p2 p3 p4 p5 p6 p7 p8 p9 p10 p11 p12 p13 : FVec F S32x64 .f32) (v0 v1 v2 v3 v4 v5 v6 v7 v8 v9 v10 v11 v12 v13 : Vec F S1x64x1024 .f32) :
    k0_pay46 (k0_pay45 p8 p9 p10 p11 p12 p13 l (k0_pay42 p0 p1 p2 p3 p4 p5 p6 p7 v0 v1 v2 v3 v4 v5 v6 v7) v8 v9 v10 v11 v12 v13) =
      head (mix ![p0, p1, p2, p3, p4, p5, p6, p7, p8, p9, p10, p11, p12, p13] ![v0, v1, v2, v3, v4, v5, v6, v7, v8, v9, v10, v11, v12, v13]) (recip l) 0 0 slices_S32x1024_o0_0_S4x128 slices_S32x1_o0_0_S4x1 := rfl

theorem recip_form (l : FVec F S32x1 .f32) : k0_pay44 l = recip l := rfl

theorem head_forms (g : FVec F S32x1024 .f32) (r : FVec F S32x1 .f32) :
    k0_pay47 g r = head g r 4 128 slices_S32x1024_o4_128_S4x128 slices_S32x1_o4_0_S4x1
    ∧ k0_pay48 g r = head g r 8 256 slices_S32x1024_o8_256_S4x128 slices_S32x1_o8_0_S4x1
    ∧ k0_pay49 g r = head g r 12 384 slices_S32x1024_o12_384_S4x128 slices_S32x1_o12_0_S4x1
    ∧ k0_pay50 g r = head g r 16 512 slices_S32x1024_o16_512_S4x128 slices_S32x1_o16_0_S4x1
    ∧ k0_pay1 (k0_pay51 g r) = head g r 20 640 slices_S32x1024_o20_640_S4x128 slices_S32x1_o20_0_S4x1
    ∧ k0_pay2 g r = head g r 24 768 slices_S32x1024_o24_768_S4x128 slices_S32x1_o24_0_S4x1
    ∧ k0_pay3 g r = head g r 28 896 slices_S32x1024_o28_896_S4x128 slices_S32x1_o28_0_S4x1 :=
  ⟨rfl, rfl, rfl, rfl, rfl, rfl, rfl⟩

theorem vec_eq {α : Type} (f : Fin 14 → α) : ![f 0, f 1, f 2, f 3, f 4, f 5, f 6, f 7, f 8, f 9, f 10, f 11, f 12, f 13] = f := by
  funext i
  fin_cases i <;> rfl

theorem weights_vec (s : Fin 14 → FVec F S32x64 .f32) :
    ![weight (top ![s 0, s 1, s 2, s 3, s 4, s 5, s 6, s 7, s 8, s 9, s 10, s 11, s 12, s 13]) (s 0), weight (top ![s 0, s 1, s 2, s 3, s 4, s 5, s 6, s 7, s 8, s 9, s 10, s 11, s 12, s 13]) (s 1), weight (top ![s 0, s 1, s 2, s 3, s 4, s 5, s 6, s 7, s 8, s 9, s 10, s 11, s 12, s 13]) (s 2), weight (top ![s 0, s 1, s 2, s 3, s 4, s 5, s 6, s 7, s 8, s 9, s 10, s 11, s 12, s 13]) (s 3), weight (top ![s 0, s 1, s 2, s 3, s 4, s 5, s 6, s 7, s 8, s 9, s 10, s 11, s 12, s 13]) (s 4), weight (top ![s 0, s 1, s 2, s 3, s 4, s 5, s 6, s 7, s 8, s 9, s 10, s 11, s 12, s 13]) (s 5), weight (top ![s 0, s 1, s 2, s 3, s 4, s 5, s 6, s 7, s 8, s 9, s 10, s 11, s 12, s 13]) (s 6), weight (top ![s 0, s 1, s 2, s 3, s 4, s 5, s 6, s 7, s 8, s 9, s 10, s 11, s 12, s 13]) (s 7), weight (top ![s 0, s 1, s 2, s 3, s 4, s 5, s 6, s 7, s 8, s 9, s 10, s 11, s 12, s 13]) (s 8), weight (top ![s 0, s 1, s 2, s 3, s 4, s 5, s 6, s 7, s 8, s 9, s 10, s 11, s 12, s 13]) (s 9), weight (top ![s 0, s 1, s 2, s 3, s 4, s 5, s 6, s 7, s 8, s 9, s 10, s 11, s 12, s 13]) (s 10), weight (top ![s 0, s 1, s 2, s 3, s 4, s 5, s 6, s 7, s 8, s 9, s 10, s 11, s 12, s 13]) (s 11), weight (top ![s 0, s 1, s 2, s 3, s 4, s 5, s 6, s 7, s 8, s 9, s 10, s 11, s 12, s 13]) (s 12), weight (top ![s 0, s 1, s 2, s 3, s 4, s 5, s 6, s 7, s 8, s 9, s 10, s 11, s 12, s 13]) (s 13)] = weights s := by
  rw [vec_eq s]
  exact vec_eq (weights s)

/-- A load of the whole query block. -/
def ldq (a : Memref sig .tc .vmem S1x32x1024 .f32) (h : a.IsWhole) (x : Vec F S1x32x1024 .f32) : Vec F S1x32x1024 .f32 :=
  View.readAt (Elt F) a.view (Rect.unit (s := S1x32x1024) ![0, 0, 0] S1x32x1024.size inb_S1x32x1024_S1x32x1024_0_0_0).toLoadRect
    (h.unread x)

theorem ldq_eq (a : Memref sig .tc .vmem S1x32x1024 .f32) (h : a.IsWhole) (x : Vec F S1x32x1024 .f32) : ldq a h x = x := by
  unfold ldq
  rw [View.readAt_eq_ld, h.read_unread]
  exact View.ld_unit_zero (S := S1x32x1024) (by funext a; fin_cases a <;> rfl) _ _

/-- A load of a whole key or value block. -/
def ldk (a : Memref sig .tc .vmem S1x64x1024 .f32) (h : a.IsWhole) (x : Vec F S1x64x1024 .f32) : Vec F S1x64x1024 .f32 :=
  View.readAt (Elt F) a.view (Rect.unit (s := S1x64x1024) ![0, 0, 0] S1x64x1024.size inb_S1x64x1024_S1x64x1024_0_0_0).toLoadRect
    (h.unread x)

theorem ldk_eq (a : Memref sig .tc .vmem S1x64x1024 .f32) (h : a.IsWhole) (x : Vec F S1x64x1024 .f32) : ldk a h x = x := by
  unfold ldk
  rw [View.readAt_eq_ld, h.read_unread]
  exact View.ld_unit_zero (S := S1x64x1024) (by funext a; fin_cases a <;> rfl) _ _

theorem word_toNat (i : grid0.Coords) : (word i).toNat = (i 0).val := by
  have h : (i 0).val < 32 := (i 0).isLt
  show (BitVec.ofNat 32 (i 0).val).toNat = _
  simp only [BitVec.toNat_ofNat]
  omega

theorem word_in (i : grid0.Coords) : ∀ a : Fin 1, ![(word i).toNat] a + S1.size a ≤ S32.size a := by
  have h : (i 0).val < 32 := (i 0).isLt
  intro a
  fin_cases a
  show (word i).toNat + 1 ≤ 32
  rw [word_toNat]
  omega

theorem word_in2 (i : grid0.Coords) (j : Fin 14) : ∀ a : Fin 2, ![(word i).toNat, j.val] a + S1x1.size a ≤ S32x14.size a := by
  have h : (i 0).val < 32 := (i 0).isLt
  intro a
  fin_cases a
  · show (word i).toNat + 1 ≤ 32
    rw [word_toNat]
    omega
  · show j.val + 1 ≤ 14
    omega

/-- The entry at the point of the grid of the table of counts. -/
def ld2 {c : Dev nD} (i : grid0.Coords) (x : TbBuf0 (F := F) c tbM0_2) : BitVec 32 :=
  View.readAt (Elt F) tbM0_2.view (Rect.unit (s := S32) ![(word i).toNat] S1.size (word_in i)).toLoadRect x
    (Shape.Idx.first (show 0 < S1.numel by decide))

theorem ld2_eq {c : Dev nD} (i : grid0.Coords) (x : TbBuf0 (F := F) c tbM0_2) : ld2 i x = (x : IVec S32 32) (ix1 (i 0)) := by
  refine congrArg (x : IVec S32 32) (funext fun a => Fin.ext ?_)
  fin_cases a
  exact (word_toNat i)

/-- The entry at the point of the grid of the table of last positions. -/
def ld3 {c : Dev nD} (i : grid0.Coords) (x : TbBuf0 (F := F) c tbM0_3) : BitVec 32 :=
  View.readAt (Elt F) tbM0_3.view (Rect.unit (s := S32) ![(word i).toNat] S1.size (word_in i)).toLoadRect x
    (Shape.Idx.first (show 0 < S1.numel by decide))

theorem ld3_eq {c : Dev nD} (i : grid0.Coords) (x : TbBuf0 (F := F) c tbM0_3) : ld3 i x = (x : IVec S32 32) (ix1 (i 0)) := by
  refine congrArg (x : IVec S32 32) (funext fun a => Fin.ext ?_)
  fin_cases a
  exact (word_toNat i)

/-- The entries at the point of the grid of the table of blocks. -/
def ld1 {c : Dev nD} (i : grid0.Coords) (x : TbBuf0 (F := F) c tbM0_1) (j : Fin 14) : BitVec 32 :=
  View.readAt (Elt F) tbM0_1.view (Rect.unit (s := S32x14) ![(word i).toNat, j.val] S1x1.size (word_in2 i j)).toLoadRect x
    (Shape.Idx.first (show 0 < S1x1.numel by decide))

theorem ld1_eq {c : Dev nD} (i : grid0.Coords) (x : TbBuf0 (F := F) c tbM0_1) (j : Fin 14) :
    ld1 i x j = (x : IVec S32x14 32) (ix2 (i 0) j) := by
  refine congrArg (x : IVec S32x14 32) (funext fun a => Fin.ext ?_)
  fin_cases a
  · exact (word_toNat i)
  · rfl

/-- The body's stores, as it writes them, of the words and blocks it loads. -/
def raw (na pos id0 id1 id2 id3 id4 id5 id6 id7 id8 id9 id10 id11 id12 id13 : BitVec 32) (q : Vec F S1x32x1024 .f32)
    (k0 k1 k2 k3 k4 k5 k6 k7 k8 k9 k10 k11 k12 k13 : Vec F S1x64x1024 .f32)
    (v0 v1 v2 v3 v4 v5 v6 v7 v8 v9 v10 v11 v12 v13 : Vec F S1x64x1024 .f32) : List (View.Piece (Elt F) S1x8x4x128 .f32) :=
  let io := iota .tc S1x64 32 [1] iota_S1x64_d1_w32
  let q4 : FVec F S32x1024 .f32 := k0_pay4 q
  let c12 := k0_pay22 (F := F) na pos io id12
  let s0 : FVec F S32x64 .f32 := k0_pay5 na pos q id0 k0
  let s1 : FVec F S32x64 .f32 := k0_pay8 (k0_pay6 (F := F) na pos id1) (k0_pay7 q k1) (FloatOps.ofBits .f32 1035273459#32)
  let s2 : FVec F S32x64 .f32 := k0_pay9 na pos q4 io id2 k2
  let s3 : FVec F S32x64 .f32 := k0_pay12 (k0_pay10 q4 k3) (Named.named κ "mask" 4048155338#32) (k0_pay11 (F := F) na pos io id3)
  let s4 : FVec F S32x64 .f32 := k0_pay13 na pos q4 io id4 k4
  let s5 : FVec F S32x64 .f32 := k0_pay14 na pos q4 io id5 k5
  let s6 : FVec F S32x64 .f32 := k0_pay15 na pos q4 io id6 k6
  let s7 : FVec F S32x64 .f32 := k0_pay16 na pos q4 io id7 k7
  let s8 : FVec F S32x64 .f32 := k0_pay17 na pos q4 io (Scalar.muli id8 64#32) k8
  let s9 : FVec F S32x64 .f32 := k0_pay18 na pos q4 io id9 k9
  let s10 : FVec F S32x64 .f32 := k0_pay20 na q4 (k0_pay19 (F := F) pos io id10) k10
  let s11 : FVec F S32x64 .f32 := k0_pay21 na pos q4 io id11 k11
  let s12 : FVec F S32x64 .f32 := k0_pay23 q4 c12 k12
  let s13 : FVec F S32x64 .f32 := k0_pay24 na pos q4 io id13 k13
  let m : FVec F S32x1 .f32 := k0_pay25 na pos q4 io s0 s1 s2 s3 s4 s5 s6 s7 s8 s9 s10 s11 c12 k12 id13 k13
  let mm : FVec F S32x64 .f32 := k0_pay26 na pos q4 io s0 s1 s2 s3 s4 s5 s6 s7 s8 s9 s10 s11 c12 k12 id13 k13
  let p0 : FVec F S32x64 .f32 := k0_pay27 s0 mm
  let p1 : FVec F S32x64 .f32 := k0_pay28 s1 m
  let p2 : FVec F S32x64 .f32 := k0_pay29 s2 m
  let p3 : FVec F S32x64 .f32 := k0_pay30 s3 m
  let p4 : FVec F S32x64 .f32 := k0_pay31 s4 m
  let p5 : FVec F S32x64 .f32 := k0_pay32 s5 m
  let p6 : FVec F S32x64 .f32 := k0_pay33 s6 m
  let p7 : FVec F S32x64 .f32 := k0_pay34 s7 m
  let p8 : FVec F S32x64 .f32 := k0_pay35 s8 m
  let p9 : FVec F S32x64 .f32 := k0_pay36 s9 m
  let p10 : FVec F S32x64 .f32 := k0_pay37 s10 m
  let p11 : FVec F S32x64 .f32 := k0_pay38 s11 m
  let p12 : FVec F S32x64 .f32 := k0_pay39 s12 m
  let p13 : FVec F S32x64 .f32 := k0_pay40 s13 m
  let l : FVec F S32x1 .f32 := k0_pay41 s0 s1 s2 s3 s4 s5 s6 s7 s8 s9 s10 s11 s12 s13 m mm
  let g8 : FVec F S32x1024 .f32 := k0_pay42 p0 p1 p2 p3 p4 p5 p6 p7 v0 v1 v2 v3 v4 v5 v6 v7
  let g : FVec F S32x1024 .f32 := k0_pay43 p8 p9 p10 p11 p12 p13 g8 v8 v9 v10 v11 v12 v13
  let r : FVec F S32x1 .f32 := k0_pay44 l
  [ ⟨Rect.unit (s := S1x8x4x128) ![0, 7, 0, 0] S1x1x4x128.size inb_S1x8x4x128_S1x1x4x128_0_7_0_0, k0_pay3 g r⟩,
    ⟨Rect.unit (s := S1x8x4x128) ![0, 6, 0, 0] S1x1x4x128.size inb_S1x8x4x128_S1x1x4x128_0_6_0_0, k0_pay2 g r⟩,
    ⟨Rect.unit (s := S1x8x4x128) ![0, 5, 0, 0] S1x1x4x128.size inb_S1x8x4x128_S1x1x4x128_0_5_0_0, k0_pay1 (k0_pay51 g r)⟩,
    ⟨Rect.unit (s := S1x8x4x128) ![0, 4, 0, 0] S1x1x4x128.size inb_S1x8x4x128_S1x1x4x128_0_4_0_0, k0_pay50 g r⟩,
    ⟨Rect.unit (s := S1x8x4x128) ![0, 3, 0, 0] S1x1x4x128.size inb_S1x8x4x128_S1x1x4x128_0_3_0_0, k0_pay49 g r⟩,
    ⟨Rect.unit (s := S1x8x4x128) ![0, 2, 0, 0] S1x1x4x128.size inb_S1x8x4x128_S1x1x4x128_0_2_0_0, k0_pay48 g r⟩,
    ⟨Rect.unit (s := S1x8x4x128) ![0, 1, 0, 0] S1x1x4x128.size inb_S1x8x4x128_S1x1x4x128_0_1_0_0, k0_pay47 g r⟩,
    ⟨Rect.unit (s := S1x8x4x128) ![0, 0, 0, 0] S1x1x4x128.size inb_S1x8x4x128_S1x1x4x128_0_0_0_0, k0_pay46 (k0_pay45 p8 p9 p10 p11 p12 p13 l g8 v8 v9 v10 v11 v12 v13)⟩ ]

theorem raw_eq (na pos : BitVec 32) (id : Fin 14 → BitVec 32) (q : Vec F S1x32x1024 .f32) (k v : Fin 14 → Vec F S1x64x1024 .f32) :
    raw na pos (id 0) (id 1) (id 2) (id 3) (id 4) (id 5) (id 6) (id 7) (id 8) (id 9) (id 10) (id 11) (id 12) (id 13) q
      (k 0) (k 1) (k 2) (k 3) (k 4) (k 5) (k 6) (k 7) (k 8) (k 9) (k 10) (k 11) (k 12) (k 13)
      (v 0) (v 1) (v 2) (v 3) (v 4) (v 5) (v 6) (v 7) (v 8) (v 9) (v 10) (v 11) (v 12) (v 13)
      = stores (mix (weights (scores na pos id q k)) v) (recip (total (weights (scores na pos id q k)))) := by
  unfold raw
  dsimp only
  simp only [score_forms, top_forms, weight_forms, total_form, mix_form, head_zero, recip_form, head_forms]
  rw [vec_eq v]
  exact congrArg (fun p => stores (mix p v) (recip (total p))) (weights_vec (scores na pos id q k))

set_option maxHeartbeats 8000000 in
/-- The body's stores, as the steps above. -/
theorem pieces (c : Dev nD) (i : grid0.Coords) (arg5 : Memref sig .tc .vmem S1x32x1024 .f32) (harg5 : arg5.IsWhole) (arg6 : Memref sig .tc .vmem S1x64x1024 .f32) (harg6 : arg6.IsWhole) (arg7 : Memref sig .tc .vmem S1x64x1024 .f32) (harg7 : arg7.IsWhole) (arg8 : Memref sig .tc .vmem S1x64x1024 .f32) (harg8 : arg8.IsWhole) (arg9 : Memref sig .tc .vmem S1x64x1024 .f32) (harg9 : arg9.IsWhole) (arg10 : Memref sig .tc .vmem S1x64x1024 .f32) (harg10 : arg10.IsWhole) (arg11 : Memref sig .tc .vmem S1x64x1024 .f32) (harg11 : arg11.IsWhole) (arg12 : Memref sig .tc .vmem S1x64x1024 .f32) (harg12 : arg12.IsWhole) (arg13 : Memref sig .tc .vmem S1x64x1024 .f32) (harg13 : arg13.IsWhole) (arg14 : Memref sig .tc .vmem S1x64x1024 .f32) (harg14 : arg14.IsWhole) (arg15 : Memref sig .tc .vmem S1x64x1024 .f32) (harg15 : arg15.IsWhole) (arg16 : Memref sig .tc .vmem S1x64x1024 .f32) (harg16 : arg16.IsWhole) (arg17 : Memref sig .tc .vmem S1x64x1024 .f32) (harg17 : arg17.IsWhole) (arg18 : Memref sig .tc .vmem S1x64x1024 .f32) (harg18 : arg18.IsWhole) (arg19 : Memref sig .tc .vmem S1x64x1024 .f32) (harg19 : arg19.IsWhole) (arg20 : Memref sig .tc .vmem S1x64x1024 .f32) (harg20 : arg20.IsWhole) (arg21 : Memref sig .tc .vmem S1x64x1024 .f32) (harg21 : arg21.IsWhole) (arg22 : Memref sig .tc .vmem S1x64x1024 .f32) (harg22 : arg22.IsWhole) (arg23 : Memref sig .tc .vmem S1x64x1024 .f32) (harg23 : arg23.IsWhole) (arg24 : Memref sig .tc .vmem S1x64x1024 .f32) (harg24 : arg24.IsWhole) (arg25 : Memref sig .tc .vmem S1x64x1024 .f32) (harg25 : arg25.IsWhole) (arg26 : Memref sig .tc .vmem S1x64x1024 .f32) (harg26 : arg26.IsWhole) (arg27 : Memref sig .tc .vmem S1x64x1024 .f32) (harg27 : arg27.IsWhole) (arg28 : Memref sig .tc .vmem S1x64x1024 .f32) (harg28 : arg28.IsWhole) (arg29 : Memref sig .tc .vmem S1x64x1024 .f32) (harg29 : arg29.IsWhole) (arg30 : Memref sig .tc .vmem S1x64x1024 .f32) (harg30 : arg30.IsWhole) (arg31 : Memref sig .tc .vmem S1x64x1024 .f32) (harg31 : arg31.IsWhole) (arg32 : Memref sig .tc .vmem S1x64x1024 .f32) (harg32 : arg32.IsWhole) (arg33 : Memref sig .tc .vmem S1x64x1024 .f32) (harg33 : arg33.IsWhole) (arg34 : Memref sig .tc .vmem S1x8x4x128 .f32) (harg34 : arg34.IsWhole) (x0 : Vec F S1x32x1024 .f32) (x1 : Vec F S1x64x1024 .f32) (x2 : Vec F S1x64x1024 .f32) (x3 : Vec F S1x64x1024 .f32) (x4 : Vec F S1x64x1024 .f32) (x5 : Vec F S1x64x1024 .f32) (x6 : Vec F S1x64x1024 .f32) (x7 : Vec F S1x64x1024 .f32) (x8 : Vec F S1x64x1024 .f32) (x9 : Vec F S1x64x1024 .f32) (x10 : Vec F S1x64x1024 .f32) (x11 : Vec F S1x64x1024 .f32) (x12 : Vec F S1x64x1024 .f32) (x13 : Vec F S1x64x1024 .f32) (x14 : Vec F S1x64x1024 .f32) (x15 : Vec F S1x64x1024 .f32) (x16 : Vec F S1x64x1024 .f32) (x17 : Vec F S1x64x1024 .f32) (x18 : Vec F S1x64x1024 .f32) (x19 : Vec F S1x64x1024 .f32) (x20 : Vec F S1x64x1024 .f32) (x21 : Vec F S1x64x1024 .f32) (x22 : Vec F S1x64x1024 .f32) (x23 : Vec F S1x64x1024 .f32) (x24 : Vec F S1x64x1024 .f32) (x25 : Vec F S1x64x1024 .f32) (x26 : Vec F S1x64x1024 .f32) (x27 : Vec F S1x64x1024 .f32) (x28 : Vec F S1x64x1024 .f32) (xt0 : TbBuf0 (F := F) c tbM0_0) (xt1 : TbBuf0 (F := F) c tbM0_1) (xt2 : TbBuf0 (F := F) c tbM0_2) (xt3 : TbBuf0 (F := F) c tbM0_3) :
   (kernelRun0_A c i arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 x0 x1 x2 x3 x4 x5 x6 x7 x8 x9 x10 x11 x12 x13 x14 x15 x16 x17 x18 x19 x20 x21 x22 x23 x24 x25 x26 x27 x28 xt0 xt1 xt2 xt3).1 =
     stores (mix (weights (scores ((xt2 : IVec S32 32) (ix1 (i 0))) ((xt3 : IVec S32 32) (ix1 (i 0)))
         (fun j => (xt1 : IVec S32x14 32) (ix2 (i 0) j)) x0 ![x1, x2, x3, x4, x5, x6, x7, x8, x9, x10, x11, x12, x13, x14]))
       ![x15, x16, x17, x18, x19, x20, x21, x22, x23, x24, x25, x26, x27, x28])
      (recip (total (weights (scores ((xt2 : IVec S32 32) (ix1 (i 0))) ((xt3 : IVec S32 32) (ix1 (i 0)))
         (fun j => (xt1 : IVec S32x14 32) (ix2 (i 0) j)) x0 ![x1, x2, x3, x4, x5, x6, x7, x8, x9, x10, x11, x12, x13, x14])))) := by
  refine Eq.trans (b := stores (mix (weights (scores (ld2 i xt2) (ld3 i xt3)
         (fun j => ld1 i xt1 j) (ldq arg5 harg5 x0) ![(ldk arg6 harg6 x1), (ldk arg7 harg7 x2), (ldk arg8 harg8 x3), (ldk arg9 harg9 x4), (ldk arg10 harg10 x5), (ldk arg11 harg11 x6), (ldk arg12 harg12 x7), (ldk arg13 harg13 x8), (ldk arg14 harg14 x9), (ldk arg15 harg15 x10), (ldk arg16 harg16 x11), (ldk arg17 harg17 x12), (ldk arg18 harg18 x13), (ldk arg19 harg19 x14)]))
       ![(ldk arg20 harg20 x15), (ldk arg21 harg21 x16), (ldk arg22 harg22 x17), (ldk arg23 harg23 x18), (ldk arg24 harg24 x19), (ldk arg25 harg25 x20), (ldk arg26 harg26 x21), (ldk arg27 harg27 x22), (ldk arg28 harg28 x23), (ldk arg29 harg29 x24), (ldk arg30 harg30 x25), (ldk arg31 harg31 x26), (ldk arg32 harg32 x27), (ldk arg33 harg33 x28)])
      (recip (total (weights (scores (ld2 i xt2) (ld3 i xt3)
         (fun j => ld1 i xt1 j) (ldq arg5 harg5 x0) ![(ldk arg6 harg6 x1), (ldk arg7 harg7 x2), (ldk arg8 harg8 x3), (ldk arg9 harg9 x4), (ldk arg10 harg10 x5), (ldk arg11 harg11 x6), (ldk arg12 harg12 x7), (ldk arg13 harg13 x8), (ldk arg14 harg14 x9), (ldk arg15 harg15 x10), (ldk arg16 harg16 x11), (ldk arg17 harg17 x12), (ldk arg18 harg18 x13), (ldk arg19 harg19 x14)]))))) ?_ (by simp only [ld1_eq, ld2_eq, ld3_eq, ldq_eq, ldk_eq])
  refine Eq.trans (b := raw (ld2 i xt2) (ld3 i xt3) (ld1 i xt1 0) (ld1 i xt1 1) (ld1 i xt1 2) (ld1 i xt1 3) (ld1 i xt1 4) (ld1 i xt1 5) (ld1 i xt1 6) (ld1 i xt1 7) (ld1 i xt1 8) (ld1 i xt1 9) (ld1 i xt1 10) (ld1 i xt1 11) (ld1 i xt1 12) (ld1 i xt1 13) (ldq arg5 harg5 x0)
      (ldk arg6 harg6 x1) (ldk arg7 harg7 x2) (ldk arg8 harg8 x3) (ldk arg9 harg9 x4) (ldk arg10 harg10 x5) (ldk arg11 harg11 x6) (ldk arg12 harg12 x7) (ldk arg13 harg13 x8) (ldk arg14 harg14 x9) (ldk arg15 harg15 x10) (ldk arg16 harg16 x11) (ldk arg17 harg17 x12) (ldk arg18 harg18 x13) (ldk arg19 harg19 x14)
      (ldk arg20 harg20 x15) (ldk arg21 harg21 x16) (ldk arg22 harg22 x17) (ldk arg23 harg23 x18) (ldk arg24 harg24 x19) (ldk arg25 harg25 x20) (ldk arg26 harg26 x21) (ldk arg27 harg27 x22) (ldk arg28 harg28 x23) (ldk arg29 harg29 x24) (ldk arg30 harg30 x25) (ldk arg31 harg31 x26) (ldk arg32 harg32 x27) (ldk arg33 harg33 x28)) ?_
    (raw_eq (ld2 i xt2) (ld3 i xt3) (fun j => ld1 i xt1 j) (ldq arg5 harg5 x0)
      ![(ldk arg6 harg6 x1), (ldk arg7 harg7 x2), (ldk arg8 harg8 x3), (ldk arg9 harg9 x4), (ldk arg10 harg10 x5), (ldk arg11 harg11 x6), (ldk arg12 harg12 x7), (ldk arg13 harg13 x8), (ldk arg14 harg14 x9), (ldk arg15 harg15 x10), (ldk arg16 harg16 x11), (ldk arg17 harg17 x12), (ldk arg18 harg18 x13), (ldk arg19 harg19 x14)]
      ![(ldk arg20 harg20 x15), (ldk arg21 harg21 x16), (ldk arg22 harg22 x17), (ldk arg23 harg23 x18), (ldk arg24 harg24 x19), (ldk arg25 harg25 x20), (ldk arg26 harg26 x21), (ldk arg27 harg27 x22), (ldk arg28 harg28 x23), (ldk arg29 harg29 x24), (ldk arg30 harg30 x25), (ldk arg31 harg31 x26), (ldk arg32 harg32 x27), (ldk arg33 harg33 x28)])
  unfold kernelRun0_A
  dsimp only
  sl_unfold_words
  rfl

end Cert.KernelIdeal.Body
-- ==== Proof.Ref.lean ====
/- What the reference computes, read at one result index: the softmax of its masked scores against its values. -/
module

public import proofs.«01_k».proof.Proof.Gen.ReferenceIdeal.Read
public import proofs.«01_k».proof.Proof.Tables
public import Idealize.ShloMosaic.PureOps.Ideal.Laws

@[expose] public section

set_option maxRecDepth 16384

noncomputable section

namespace Cert.Ref

open Cert.ReferenceIdeal Cert.ReferenceIdeal.Gen Cert.ReferenceIdeal.Read Idealize.ShloMosaic Idealize.ShloMosaic.TcCoe
open Cert.Tables (w32 active)

/-- A page of a cache, placed by a table of pages. -/
theorem gather_at {α : Type} (x : S4096x16x8x128.Idx → α) (idx : IVec S32x128x1 32) (b : Fin 32) (p : Fin 128) (w : Fin 16)
    (h : Fin 8) (d : Fin 128) :
    Host.gather gather_S4096x16x8x128_S32x128x1_S32x128x16x8x128_234_0_n_n_0_2_1168128 x idx (ix5 b p w h d) = x (ix4 ⟨min (idx (ix3 b p 0)).toInt.toNat 4095, by omega⟩ w h d) := by
  unfold Host.gather
  congr 1
  funext a
  refine Fin.ext ?_
  show GatherDims.start gather_S4096x16x8x128_S32x128x1_S32x128x16x8x128_234_0_n_n_0_2_1168128 (ix5 b p w h d) idx a + GatherDims.batchCoord gather_S4096x16x8x128_S32x128x1_S32x128x16x8x128_234_0_n_n_0_2_1168128 (ix5 b p w h d) a
      + GatherDims.offCoord gather_S4096x16x8x128_S32x128x1_S32x128x16x8x128_234_0_n_n_0_2_1168128 (ix5 b p w h d) a = _
  rw [GatherDims.batchCoord_eq_zero _ _ _ (fun h => by simp [gather_S4096x16x8x128_S32x128x1_S32x128x16x8x128_234_0_n_n_0_2_1168128] at h)]
  fin_cases a
  · rw [GatherDims.offCoord_eq_zero _ _ _ (fun h => ((GatherDims.mem_sKept _ _).mp h).1 (List.mem_singleton.mpr rfl))]
    simp only [Nat.add_zero]
    unfold GatherDims.start
    rw [dif_pos (by decide)]
    have hsi : GatherDims.siIdx gather_S4096x16x8x128_S32x128x1_S32x128x16x8x128_234_0_n_n_0_2_1168128 (ix5 b p w h d) ⟨List.idxOf (0 : Fin 4) (GatherDims.startIndexMap gather_S4096x16x8x128_S32x128x1_S32x128x16x8x128_234_0_n_n_0_2_1168128),
        List.idxOf_lt_length_iff.2 (List.mem_singleton.mpr rfl)⟩ = ix3 b p 0 := by
      funext c; refine Fin.ext ?_
      fin_cases c <;> rfl
    erw [hsi]
    rfl
  all_goals
    unfold GatherDims.start GatherDims.offCoord
    rw [dif_neg (by decide), dif_pos (by decide)]
    simp only [Nat.zero_add, Nat.add_zero]
    rfl

/-- The number of the page that holds position `t` of sequence `b`. -/
def page (b : Fin 32) (t : Fin 2048) : Fin 4096 := ⟨128 * b.val + t.val / 16, by omega⟩

/-- A cache read at position `t` of sequence `b`, for a query head. -/
def at4 {α : Type} (x : S4096x16x8x128.Idx → α) (b : Fin 32) (t : Fin 2048) (h : Fin 32) (d : Fin 128) : α :=
  x (ix4 (page b t) ⟨t.val % 16, by omega⟩ ⟨h.val / 4, by omega⟩ d)

/-- The table of pages lists them in order. -/
def InOrder (x3 : IVec S32x128 32) : Prop := ∀ (b : Fin 32) (p : Fin 128), x3 (ix2 b p) = w32 (128 * b.val + p.val)

theorem wrap_at : ∀ n : Fin 4096, Scalar.select (IntOp.cmpi .slt (w32 n) 0#32) (IntOp.addi (w32 n) 4096#32) (w32 n) = w32 n := by
  decide +kernel

theorem toNat_at (n : ℕ) (h : n < 4096) : min (w32 n).toInt.toNat 4095 = n := by
  have : (w32 n).toInt = n := by
    rw [BitVec.toInt_eq_toNat_of_lt (by rw [BitVec.toNat_ofNat]; omega), BitVec.toNat_ofNat, Nat.mod_eq_of_lt (by omega)]
  rw [this]
  omega

theorem wrapped_k (x3 : IVec S32x128 32) (hT : InOrder x3) (b : Fin 32) (p : Fin 128) :
    val_main_v5 (F := Ideal) x3 (ix3 b p 0) = w32 (128 * b.val + p.val) := by
  rw [val_main_v5_apply]
  have e : idx_main_v5 (ix3 b p 0) = ix2 b p := by funext a; fin_cases a <;> rfl
  rw [e]
  show Scalar.select (IntOp.cmpi .slt (x3 (ix2 b p)) 0#32) (IntOp.addi (x3 (ix2 b p)) 4096#32) (x3 (ix2 b p)) = _
  rw [hT b p]
  exact wrap_at ⟨128 * b.val + p.val, by omega⟩

theorem wrapped_v (x3 : IVec S32x128 32) (hT : InOrder x3) (b : Fin 32) (p : Fin 128) :
    val_main_v13 (F := Ideal) x3 (ix3 b p 0) = w32 (128 * b.val + p.val) := wrapped_k x3 hT b p

theorem idx17 (b : Fin 32) (t : Fin 2048) (h : Fin 32) (d : Fin 128) :
    idx_main_v7 (idx_main_v16 (idx_main_v17 (ix4 b t h d)))
      = ix5 b ⟨t.val / 16, by omega⟩ ⟨t.val % 16, by omega⟩ ⟨h.val / 4, by omega⟩ d := by
  have e : idx_main_v17 (ix4 b t h d) = ix5 b t ⟨h.val / 4, by omega⟩ ⟨h.val % 4, by omega⟩ d := by
    funext a
    refine Fin.ext ?_
    fin_cases a
    · show (((b.val * 2048 + t.val) * 32 + h.val) * 128 + d.val) / 8388608 = b.val
      omega
    · show (((b.val * 2048 + t.val) * 32 + h.val) * 128 + d.val) / 4096 % 2048 = t.val
      omega
    · show (((b.val * 2048 + t.val) * 32 + h.val) * 128 + d.val) / 512 % 8 = h.val / 4
      omega
    · show (((b.val * 2048 + t.val) * 32 + h.val) * 128 + d.val) / 128 % 4 = h.val % 4
      omega
    · show (((b.val * 2048 + t.val) * 32 + h.val) * 128 + d.val) % 128 = d.val
      omega
  rw [e]
  funext a
  refine Fin.ext ?_
  have hh : h.val / 4 < 8 := by omega
  fin_cases a
  · show (((b.val * 2048 + t.val) * 8 + h.val / 4) * 128 + d.val) / 2097152 = b.val
    omega
  · show (((b.val * 2048 + t.val) * 8 + h.val / 4) * 128 + d.val) / 16384 % 128 = t.val / 16
    omega
  · show (((b.val * 2048 + t.val) * 8 + h.val / 4) * 128 + d.val) / 1024 % 16 = t.val % 16
    omega
  · show (((b.val * 2048 + t.val) * 8 + h.val / 4) * 128 + d.val) / 128 % 8 = h.val / 4
    omega
  · show (((b.val * 2048 + t.val) * 8 + h.val / 4) * 128 + d.val) % 128 = d.val
    omega

/-- The keys as the reference gathers them. -/
theorem keys_at (x1 : FVec Ideal S4096x16x8x128 .f32) (x3 : IVec S32x128 32) (hT : InOrder x3) (b : Fin 32) (t : Fin 2048)
    (h : Fin 32) (d : Fin 128) : val_main_v17 (F := Ideal) x1 x3 (ix4 b t h d) = at4 x1 b t h d := by
  rw [val_main_v17_apply, val_main_v16_apply, val_main_v7_apply, idx17]
  unfold val_main_v6
  rw [gather_at]
  unfold at4
  congr 2
  refine Fin.ext ?_
  show min (val_main_v5 (F := Ideal) x3 (ix3 b ⟨t.val / 16, _⟩ 0)).toInt.toNat 4095 = _
  rw [wrapped_k x3 hT]
  exact toNat_at _ (by show 128 * b.val + t.val / 16 < 4096; omega)

/-- The values, gathered the same way. -/
theorem values_at (x2 : FVec Ideal S4096x16x8x128 .f32) (x3 : IVec S32x128 32) (hT : InOrder x3) (b : Fin 32) (t : Fin 2048)
    (h : Fin 32) (d : Fin 128) : val_main_v19 (F := Ideal) x2 x3 (ix4 b t h d) = at4 x2 b t h d :=
  keys_at x2 x3 hT b t h d

/-! ## The mask -/

theorem block_of : ∀ n : Fin 2048, val_main_v24 (F := Ideal) (ix1 n) = w32 (n.val / 64) := by decide +kernel

theorem stride_of : ∀ n : Fin 2048, val_main_v39 (F := Ideal) (ix1 n) = if (n.val / 64 + 1) % 4 = 0 then 1#1 else 0#1 := by
  decide +kernel

theorem near_iff : ∀ q j : Fin 32, j ≤ q →
    (IntOp.ori (IntOp.cmpi .slt (IntOp.subi (w32 q) (w32 j)) 8#32) (if (j.val + 1) % 4 = 0 then 1#1 else 0#1) = 1#1 ↔ active q j) := by
  decide +kernel

/-- Which positions a sequence of the given length attends to. -/
def keep (n : ℕ) (t : Fin 2048) : Prop := t.val < n ∧ active ((n - 1) / 64) (t.val / 64)

theorem mask_at (x4 : IVec S32 32) (b h : Fin 32) (t : Fin 2048) (h1 : 1 ≤ (x4 (ix1 b)).toNat) (h2 : (x4 (ix1 b)).toNat ≤ 2048) :
    val_main_call3_v1 (F := Ideal) x4 (ix3 b h t) = 1#1 ↔ keep (x4 (ix1 b)).toNat t := by
  rw [val_main_call3_v1_apply, val_main_v49_apply]
  have e : idx_main_v49 (idx_main_call3_v1 (ix3 b h t)) = ix2 b t := by funext a; fin_cases a <;> rfl
  rw [e]
  have e0 : val_main_v48 (F := Ideal) x4 (ix2 b t)
      = IntOp.andi (IntOp.cmpi .sle (w32 t) (Cert.Tables.lastPos x4 (ix1 b)))
          (IntOp.ori (IntOp.cmpi .slt (IntOp.subi (Cert.Tables.qBlock (Cert.Tables.lastPos x4) (ix1 b)) (val_main_v24 (F := Ideal) (ix1 t))) 8#32)
            (val_main_v39 (F := Ideal) (ix1 t))) := by
    rw [val_main_v48_apply, val_main_v44_apply, val_main_v47_apply, val_main_v34_apply, val_main_v32_apply,
      val_main_v42_apply, val_main_v40_apply, val_main_v43_apply, val_main_v41_apply, val_main_v30_apply, val_main_v28_apply,
      val_main_v31_apply, val_main_v29_apply, val_main_v46_apply, val_main_v45_apply]
    have i1 : idx_main_v40 (idx_main_v42 (ix2 b t)) = ix1 t := by funext a; fin_cases a; rfl
    have i2 : idx_main_v41 (idx_main_v43 (ix2 b t)) = ix1 b := by funext a; fin_cases a; rfl
    have i3 : idx_main_v28 (idx_main_v30 (ix2 b t)) = ix1 b := by funext a; fin_cases a; rfl
    have i4 : idx_main_v29 (idx_main_v31 (ix2 b t)) = ix1 t := by funext a; fin_cases a; rfl
    have i5 : idx_main_v45 (idx_main_v46 (ix2 b t)) = ix1 t := by funext a; fin_cases a; rfl
    rw [i1, i2, i3, i4, i5]
    rfl
  rw [e0, Cert.Tables.qBlock_at x4 b h1 h2, Cert.Tables.lastPos_at x4 b h1 h2, block_of, stride_of, IntOp.andi_eq_one,
    StableHlo.Predicate.sle_iff_toNat (by rw [BitVec.toNat_ofNat]; omega) (by rw [BitVec.toNat_ofNat]; omega)]
  rw [BitVec.toNat_ofNat, BitVec.toNat_ofNat, Nat.mod_eq_of_lt (by omega), Nat.mod_eq_of_lt (by omega)]
  have hq : (Cert.Tables.qOf x4 b).val = ((x4 (ix1 b)).toNat - 1) / 64 := by
    show ((x4 (ix1 b)).toNat - 1) / 64 % 32 = _
    omega
  unfold keep
  constructor
  · rintro ⟨h3, h4⟩
    refine ⟨by omega, ?_⟩
    have := (near_iff (Cert.Tables.qOf x4 b) ⟨t.val / 64, by omega⟩ (by show t.val / 64 ≤ _; rw [hq]; omega)).1 h4
    rwa [hq] at this
  · rintro ⟨h3, h4⟩
    refine ⟨by omega, ?_⟩
    refine (near_iff (Cert.Tables.qOf x4 b) ⟨t.val / 64, by omega⟩ (by show t.val / 64 ≤ _; rw [hq]; omega)).2 ?_
    rw [hq]
    exact h4

end Cert.Ref
-- ==== Proof.RefSoft.lean ====
/- The reference's result at one index, as a softmax over the positions. -/
module

public import proofs.«01_k».proof.Proof.Ref
public import Idealize.ShloMosaic.Lib.ValueIdx

@[expose] public section

set_option maxRecDepth 16384

noncomputable section

namespace Cert.Ref

open Cert.ReferenceIdeal Cert.ReferenceIdeal.Gen Cert.ReferenceIdeal.Read Idealize.ShloMosaic Idealize.ShloMosaic.TcCoe
open Cert.Tables (w32 active)

/-- The number both programs multiply the scores by. -/
def scale : EReal := FloatOps.ofBits (F := Ideal) .f32 0x3DB504F3#32

theorem minus_inf : (FloatOps.ofBits (F := Ideal) .f32 0xFF800000#32 : EReal) = ⊥ := by
  simp [Ideal.ofBits, Ideal.ieee, -EReal.coe_mul]

theorem zero_val : (FloatOps.ofBits (F := Ideal) .f32 0x00000000#32 : EReal) = 0 := by
  simp [Ideal.ofBits, Ideal.ieee, -EReal.coe_mul]

open Classical in
/-- The masked scores. -/
def logit (x0 : FVec Ideal S32x32x128 .f32) (x1 : FVec Ideal S4096x16x8x128 .f32) (n : ℕ) (b h : Fin 32) (t : Fin 2048) : EReal :=
  if keep n t then (∑ d : Fin 128, x0 (ix3 b h d) * at4 x1 b t h d) * scale else ⊥

variable (x0 : FVec Ideal S32x32x128 .f32) (x1 x2 : FVec Ideal S4096x16x8x128 .f32) (x3 : IVec S32x128 32) (x4 : IVec S32 32)
  (hT : InOrder x3) (b h : Fin 32) (h1 : 1 ≤ (x4 (ix1 b)).toNat) (h2 : (x4 (ix1 b)).toNat ≤ 2048)

include hT h1 h2

theorem logit_at (t : Fin 2048) :
    val_main_v50 (F := Ideal) x0 x1 x3 x4 (ix3 b h t) = logit x0 x1 (x4 (ix1 b)).toNat b h t := by
  rw [val_main_v50_apply, val_main_v22_apply, val_main_v20_apply]
  have e1 : ∀ k : Fin 128, lidx_main_v20 (ix3 b h t) k = ix3 b h k := fun k => by funext a; fin_cases a <;> rfl
  have e2 : ∀ k : Fin 128, ridx_main_v20 (ix3 b h t) k = ix4 b t h k := fun k => by funext a; fin_cases a <;> rfl
  have e3 : (∑ k : Fin 128, x0 (lidx_main_v20 (ix3 b h t) k) * val_main_v17 (F := Ideal) x1 x3 (ridx_main_v20 (ix3 b h t) k))
      = ∑ d : Fin 128, x0 (ix3 b h d) * at4 x1 b t h d := Finset.sum_congr rfl fun k _ => by rw [e1, e2, keys_at x1 x3 hT]
  rw [e3]
  unfold logit
  by_cases hk : keep (x4 (ix1 b)).toNat t
  · rw [if_pos hk, (mask_at x4 b h t h1 h2).2 hk]
    rfl
  · rw [if_neg hk, ValueIdx.eq_zero_of_ne_one (mt (mask_at x4 b h t h1 h2).1 hk)]
    exact minus_inf

theorem top_eq : val_main_v51 (F := Ideal) x0 x1 x3 x4 (ix2 b h)
    = (Finset.univ : Finset (Fin 2048)).fold max ⊥ (logit x0 x1 (x4 (ix1 b)).toNat b h) := by
  have hl : ∀ t, val_main_v50 (F := Ideal) x0 x1 x3 x4 (ix3 b h t) = logit x0 x1 (x4 (ix1 b)).toNat b h t := logit_at x0 x1 x3 x4 hT b h h1 h2
  unfold val_main_v51
  generalize val_main_v50 (F := Ideal) x0 x1 x3 x4 = y at hl
  generalize logit x0 x1 (x4 (ix1 b)).toNat b h = s at hl
  have hr : S32x32x2048.Reduces [2] S32x32 := by decide
  rw [Host.reduce_eq_fold_single (a := 2) _ y (val_main_cst_11 (F := Ideal)) _ hr]
  have e : ∀ t : Fin 2048, (y ∘ hr.lift (ix2 b h)) t = s t := fun t => by
    rw [← hl t]
    refine congrArg y (funext fun a => ?_)
    fin_cases a <;> rfl
  exact congrArg₂ (fun i f => Finset.fold max i f (Finset.univ : Finset (Fin 2048))) minus_inf (funext e)

theorem top_at : IsLUB (Set.range (logit x0 x1 (x4 (ix1 b)).toNat b h)) (val_main_v53 (F := Ideal) x0 x1 x3 x4 (ix2 b h)) := by
  have e : val_main_v53 (F := Ideal) x0 x1 x3 x4 (ix2 b h)
      = (Finset.univ : Finset (Fin 2048)).fold max ⊥ (logit x0 x1 (x4 (ix1 b)).toNat b h) := by
    rw [val_main_v53_apply]
    rw [top_eq x0 x1 x3 x4 hT b h h1 h2]
    show max (val_main_v52 (F := Ideal) (ix2 b h) : EReal) _ = _
    rw [show (val_main_v52 (F := Ideal) (ix2 b h) : EReal) = ⊥ from minus_inf]
    exact max_eq_right bot_le
  rw [e]
  constructor
  · rintro _ ⟨t, rfl⟩
    exact (Finset.fold_max_le _).1 le_rfl |>.2 t (Finset.mem_univ t)
  · intro u hu
    exact (Finset.fold_max_le _).2 ⟨bot_le, fun t _ => hu ⟨t, rfl⟩⟩

theorem exp_at (t : Fin 2048) : val_main_v57 (F := Ideal) x0 x1 x3 x4 (ix3 b h t)
    = Ideal.exp (logit x0 x1 (x4 (ix1 b)).toNat b h t - val_main_v53 (F := Ideal) x0 x1 x3 x4 (ix2 b h)) := by
  rw [val_main_v57_apply, val_main_v56_apply, logit_at x0 x1 x3 x4 hT b h h1 h2, val_main_v55_apply, val_main_v54_apply]
  have e : idx_main_v54 (idx_main_v55 (ix3 b h t)) = ix2 b h := by funext a; fin_cases a <;> rfl
  rw [e]
  rfl

/-- The reference's result at one index. -/
theorem result_at (d : Fin 128) : val_main_v62 (F := Ideal) x0 x1 x2 x3 x4 (ix3 b h d)
    = ∑ t : Fin 2048, Ideal.div (Ideal.exp (logit x0 x1 (x4 (ix1 b)).toNat b h t - val_main_v53 (F := Ideal) x0 x1 x3 x4 (ix2 b h)))
        (∑ j : Fin 2048, Ideal.exp (logit x0 x1 (x4 (ix1 b)).toNat b h j - val_main_v53 (F := Ideal) x0 x1 x3 x4 (ix2 b h)))
        * at4 x2 b t h d := by
  rw [val_main_v62_apply]
  refine Finset.sum_congr rfl fun t _ => ?_
  have e1 : lidx_main_v62 (ix3 b h d) t = ix3 b h t := by funext a; fin_cases a <;> rfl
  have e2 : ridx_main_v62 (ix3 b h d) t = ix4 b t h d := by funext a; fin_cases a <;> rfl
  rw [e1, e2, values_at x2 x3 hT, val_main_v61_apply, exp_at x0 x1 x3 x4 hT b h h1 h2, val_main_v60_apply, val_main_v59_apply]
  have e3 : idx_main_v59 (idx_main_v60 (ix3 b h t)) = ix2 b h := by funext a; fin_cases a <;> rfl
  rw [e3, val_main_v58_apply]
  have e4 : ∀ j : Fin 2048, idx_main_v58 (ix2 b h) j = ix3 b h j := fun j => by funext a; fin_cases a <;> rfl
  have e5 : (val_main_cst_13 (F := Ideal) (Shape.Idx.first h_S_) : EReal)
        + ∑ k : Fin 2048, val_main_v57 (F := Ideal) x0 x1 x3 x4 (idx_main_v58 (ix2 b h) k)
      = ∑ j : Fin 2048, Ideal.exp (logit x0 x1 (x4 (ix1 b)).toNat b h j - val_main_v53 (F := Ideal) x0 x1 x3 x4 (ix2 b h)) := by
    rw [show (val_main_cst_13 (F := Ideal) (Shape.Idx.first h_S_) : EReal) = 0 from zero_val, zero_add]
    exact Finset.sum_congr rfl fun j _ => by rw [e4, exp_at x0 x1 x3 x4 hT b h h1 h2]
  rw [e5]
  rfl

end Cert.Ref
-- ==== Proof.Real.At.lean ====
/- The steps of the kernel's body over the extended reals, read at one index. -/
module

public import proofs.«01_k».proof.Proof.Real.Steps
public import proofs.«01_k».proof.Proof.RefSoft
public import Idealize.ShloMosaic.PureOps.Ideal.Laws
public import Idealize.ShloMosaic.PureOps.IdealRules

@[expose] public section

set_option maxRecDepth 16384

noncomputable section

namespace Cert.KernelIdeal.Body

open Cert.KernelIdeal Cert.KernelIdeal.Gen Idealize.ShloMosaic Idealize.ShloMosaic.TcCoe
open Cert.Tables (w32)
open Cert.Ref (scale minus_inf zero_val)

theorem drop_at (q : Vec Ideal S1x32x1024 .f32) (h : Fin 32) (x : Fin 1024) :
    shapeCast S32x1024 q shapeCasts_S1x32x1024_S32x1024 (ix2 h x) = q (ix3 0 h x) :=
  shapeCast_apply q _ _ _ (by
    rw [Shape.rowMajor_val_three, Shape.rowMajor_val_two]
    show (0 * 32 + h.val) * 1024 + x.val = h.val * 1024 + x.val
    omega)

theorem drop_at' (k : Vec Ideal S1x64x1024 .f32) (t : Fin 64) (x : Fin 1024) :
    shapeCast S64x1024 k shapeCasts_S1x64x1024_S64x1024 (ix2 t x) = k (ix3 0 t x) :=
  shapeCast_apply k _ _ _ (by
    rw [Shape.rowMajor_val_three, Shape.rowMajor_val_two]
    show (0 * 64 + t.val) * 1024 + x.val = t.val * 1024 + x.val
    omega)

theorem column_at (v : FVec Ideal S32 .f32) (h : Fin 32) :
    shapeCast S32x1 v shapeCasts_S32_S32x1 (ix2 h 0) = v (ix1 h) :=
  shapeCast_apply v _ _ _ (by
    rw [Shape.rowMajor_val_one, Shape.rowMajor_val_two]
    show h.val = h.val * 1 + 0
    omega)

theorem spread_at (v : FVec Ideal S32x1 .f32) (h : Fin 32) (t : Fin 64) :
    broadcastTo S32x64 v broadcasts_S32x1_S32x64 (ix2 h t) = v (ix2 h 0) :=
  broadcastTo_apply v _ _ _ (by intro a; fin_cases a <;> rfl)

theorem mask_spread (v : IVec S1x64 1) (h : Fin 32) (t : Fin 64) :
    broadcastTo S32x64 v broadcasts_S1x64_S32x64 (ix2 h t) = v (ix2 0 t) :=
  broadcastTo_apply v _ _ _ (by intro a; fin_cases a <;> rfl)

/-- A product of the queries and one key block. -/
theorem scores_dot (q : FVec Ideal S32x1024 .f32) (k : FVec Ideal S64x1024 .f32) (h : Fin 32) (t : Fin 64) :
    matmul dot_S32x1024_S64x1024_S32x64_1_1_0_0_n_n none q k (constant S32x64 .f32 0x00000000#32) (ix2 h t)
      = ∑ x : Fin 1024, q (ix2 h x) * k (ix2 t x) := by
  refine (Ideal.matmul_apply₁_of _ (a := 1) rfl (K := 1024) rfl q k _ (ix2 h t) (fun x => ix2 h x) (fun x => ix2 t x)
    (fun x => by funext a; fin_cases a <;> rfl) (fun x => by funext a; fin_cases a <;> rfl)).trans ?_
  rw [show (constant (F := Ideal) S32x64 .f32 0x00000000#32 (ix2 h t) : EReal) = 0 from zero_val, zero_add]

/-- A product of one block's weights and its values. -/
theorem mix_dot (p : FVec Ideal S32x64 .f32) (v : FVec Ideal S64x1024 .f32) (h : Fin 32) (x : Fin 1024) :
    matmul dot_S32x64_S64x1024_S32x1024_1_0_0_1_n_n none p v (constant S32x1024 .f32 0x00000000#32) (ix2 h x)
      = ∑ t : Fin 64, p (ix2 h t) * v (ix2 t x) := by
  refine (Ideal.matmul_apply₁_of _ (a := 1) rfl (K := 64) rfl p v _ (ix2 h x) (fun t => ix2 h t) (fun t => ix2 t x)
    (fun t => by funext a; fin_cases a <;> rfl) (fun t => by funext a; fin_cases a <;> rfl)).trans ?_
  rw [show (constant (F := Ideal) S32x1024 .f32 0x00000000#32 (ix2 h x) : EReal) = 0 from zero_val, zero_add]

theorem mask_value : (Named.named (F := Ideal) (φ := .f32) κ "mask" 0xF149F2CA#32 : EReal) = ⊥ :=
  IdealRules.named_const.ideal_named_scalar _ _ _ _ rfl

/-- A score. -/
theorem score_at (na pos i id : BitVec 32) (q : Vec Ideal S1x32x1024 .f32) (k : Vec Ideal S1x64x1024 .f32) (h : Fin 32)
    (t : Fin 64) :
    score (F := Ideal) na pos i id q k (ix2 h t)
      = Scalar.select (IntOp.andi (IntOp.cmpi .sle (id * 64#32 + w32 t.val) pos) (IntOp.cmpi .sgt na i))
          ((∑ x : Fin 1024, q (ix3 0 h x) * k (ix3 0 t x)) * scale : EReal) ⊥ := by
  unfold score
  show Scalar.select (broadcastTo S32x64 _ broadcasts_S1x64_S32x64 (ix2 h t))
    ((matmul (F := Ideal) dot_S32x1024_S64x1024_S32x64_1_1_0_0_n_n none (shapeCast S32x1024 q shapeCasts_S1x32x1024_S32x1024)
        (shapeCast S64x1024 k shapeCasts_S1x64x1024_S64x1024) (constant S32x64 .f32 0x00000000#32) (ix2 h t) : EReal) * scale)
    (Named.named (F := Ideal) (φ := .f32) κ "mask" 0xF149F2CA#32 : EReal) = _
  rw [mask_value, mask_spread, scores_dot, shapeCast_apply (t := S1x64) _ shapeCasts_S1x64_S1x64 (ix2 0 t) (ix2 0 t) rfl]
  have e : andi (cmpi .sle (addi (broadcast S1x64 (Scalar.muli id 64#32)) (iota .tc S1x64 32 [1] iota_S1x64_d1_w32)) (broadcast S1x64 pos))
      (broadcast S1x64 (Scalar.cmpi .sgt na i)) (ix2 0 t)
      = IntOp.andi (IntOp.cmpi .sle (id * 64#32 + w32 t.val) pos) (IntOp.cmpi .sgt na i) :=
    congrArg (fun w => IntOp.andi (IntOp.cmpi .sle (id * 64#32 + w) pos) (IntOp.cmpi .sgt na i))
      (iota_single_apply .tc S1x64 32 1 iota_S1x64_d1_w32 (ix2 0 t))
  rw [e]
  refine congrArg (fun a => Scalar.select _ (a * scale) (⊥ : EReal)) (Finset.sum_congr rfl fun x _ => ?_)
  exact congrArg₂ (fun a b : EReal => a * b) (drop_at q h x) (drop_at' k t x)

/-- A score, its table entries given as numbers. -/
theorem score_num (n L B j : ℕ) (hn : n ≤ 14) (hL : 1 ≤ L ∧ L ≤ 2048) (hB : B < 32) (hj : j < 14)
    (q : Vec Ideal S1x32x1024 .f32) (k : Vec Ideal S1x64x1024 .f32) (h : Fin 32) (t : Fin 64) :
    score (F := Ideal) (w32 n) (w32 (L - 1)) (w32 j) (w32 B) q k (ix2 h t)
      = if 64 * B + t.val < L ∧ j < n then (∑ x : Fin 1024, q (ix3 0 h x) * k (ix3 0 t x)) * scale else ⊥ := by
  have e : w32 B * 64#32 + w32 t.val = w32 (64 * B + t.val) := by
    apply BitVec.eq_of_toNat_eq
    simp only [BitVec.toNat_add, BitVec.toNat_mul, BitVec.toNat_ofNat]
    omega
  have hc : IntOp.andi (IntOp.cmpi .sle (w32 B * 64#32 + w32 t.val) (w32 (L - 1))) (IntOp.cmpi .sgt (w32 n) (w32 j)) = 1#1
      ↔ 64 * B + t.val < L ∧ j < n := by
    rw [e, IntOp.andi_eq_one, StableHlo.Predicate.sle_iff_toNat (by rw [BitVec.toNat_ofNat]; omega) (by rw [BitVec.toNat_ofNat]; omega),
      StableHlo.Predicate.sgt_iff_toNat (by rw [BitVec.toNat_ofNat]; omega) (by rw [BitVec.toNat_ofNat]; omega)]
    simp only [BitVec.toNat_ofNat]
    omega
  rw [score_at]
  by_cases h1 : 64 * B + t.val < L ∧ j < n
  · rw [if_pos h1, hc.2 h1]
    rfl
  · rw [if_neg h1, ValueIdx.eq_zero_of_ne_one (mt hc.1 h1)]
    rfl

/-! ## Joined arrays -/

theorem join_at {s : Shape} (op : EReal → EReal → EReal) (f : Fin 14 → s.Idx → EReal) (i : s.Idx) :
    join (fun (a b : s.Idx → EReal) j => op (a j) (b j)) f i = join op (fun j => f j i) := rfl

theorem join_add (f : Fin 14 → EReal) : join (· + ·) f = ∑ i, f i := by
  simp only [Fin.sum_univ_castSucc, Fin.sum_univ_zero, zero_add]
  rfl

theorem join_max (f : Fin 14 → EReal) (u : EReal) : join max f ≤ u ↔ ∀ i, f i ≤ u := by
  unfold join
  simp only [max_le_iff, Fin.forall_fin_succ, Fin.forall_fin_zero]
  tauto

variable (s p : Fin 14 → FVec Ideal S32x64 .f32) (v : Fin 14 → Vec Ideal S1x64x1024 .f32) (h : Fin 32)

theorem top_at : IsLUB (Set.range fun k : Fin 14 × Fin 64 => (s k.1 (ix2 h k.2) : EReal)) (top s (ix2 h 0)) := by
  have e : top s (ix2 h 0) = (Finset.univ : Finset (Fin 64)).fold max ⊥ fun t => join max fun i => (s i (ix2 h t) : EReal) := by
    unfold top
    refine (column_at _ h).trans ((Ideal.multiReduction_maximumf_single (a := 1) _ _ _ _ _ _).trans ?_)
    refine congrArg₂ (fun i f => Finset.fold max i f (Finset.univ : Finset (Fin 64))) minus_inf (funext fun t => ?_)
    refine congrArg (fun i => join max fun j => (s j i : EReal)) (funext fun a => ?_)
    fin_cases a <;> rfl
  rw [e]
  constructor
  · rintro _ ⟨⟨i, t⟩, rfl⟩
    have ht := ((Finset.fold_max_le (b := (⊥ : EReal)) (f := fun t => join max fun i => (s i (ix2 h t) : EReal))
      (s := (Finset.univ : Finset (Fin 64))) _).1 le_rfl).2 t (Finset.mem_univ t)
    exact (join_max (fun i => (s i (ix2 h t) : EReal)) _).1 ht i
  · intro u hu
    exact (Finset.fold_max_le _).2 ⟨bot_le, fun t _ => (join_max _ _).2 fun i => hu ⟨(i, t), rfl⟩⟩

theorem total_at : total p (ix2 h 0) = ∑ k : Fin 14 × Fin 64, (p k.1 (ix2 h k.2) : EReal) := by
  unfold total
  rw [Fintype.sum_prod_type_right]
  refine (column_at _ h).trans ((Ideal.multiReduction_add_single (a := 1) _ _ _ _ _ _).trans ?_)
  refine Finset.sum_congr rfl fun t _ => ?_
  refine Eq.trans ?_ (join_add fun i => (p i (ix2 h t) : EReal))
  refine congrArg (fun i => join (· + ·) fun j => (p j i : EReal)) (funext fun a => ?_)
  fin_cases a <;> rfl

theorem mix_at (x : Fin 1024) :
    mix p v (ix2 h x) = ∑ k : Fin 14 × Fin 64, (p k.1 (ix2 h k.2) : EReal) * v k.1 (ix3 0 k.2 x) := by
  rw [Fintype.sum_prod_type]
  refine Eq.trans (join_add fun i => (part (p i) (v i) (ix2 h x) : EReal)) (Finset.sum_congr rfl fun i _ => ?_)
  unfold part
  exact (mix_dot _ _ h x).trans (Finset.sum_congr rfl fun t _ => congrArg (fun z : EReal => p i (ix2 h t) * z) (drop_at' (v i) t x))

theorem weight_at (m : FVec Ideal S32x1 .f32) (y : FVec Ideal S32x64 .f32) (t : Fin 64) :
    weight m y (ix2 h t) = Ideal.exp ((y (ix2 h t) : EReal) - m (ix2 h 0)) := by
  show Ideal.exp ((y (ix2 h t) : EReal) - broadcastTo S32x64 m broadcasts_S32x1_S32x64 (ix2 h t)) = _
  rw [spread_at]

theorem one_val : (FloatOps.ofBits (F := Ideal) .f32 0x3F800000#32 : EReal) = 1 := by
  simp [Ideal.ofBits, Ideal.ieee, -EReal.coe_mul]
  norm_num

theorem recip_at (l : FVec Ideal S32x1 .f32) : recip l (ix2 h 0) = Ideal.div 1 (l (ix2 h 0)) := by
  show Ideal.div (FloatOps.ofBits (F := Ideal) .f32 0x3F800000#32) (l (ix2 h 0)) = _
  rw [one_val]

theorem head_at (g : FVec Ideal S32x1024 .f32) (r : FVec Ideal S32x1 .f32) (a b : ℕ) (hg : S32x1024.Slices ![a, b] S4x128)
    (hr : S32x1.Slices ![a, 0] S4x1) (y : Fin 4) (d : Fin 128) (h : Fin 32) (x : Fin 1024) (eh : h.val = a + y.val)
    (ex : x.val = b + d.val) : head g r a b hg hr (ix4 0 0 y d) = (g (ix2 h x) : EReal) * r (ix2 h 0) := by
  unfold head
  rw [shapeCast_apply _ _ (ix4 0 0 y d) (ix2 y d) (by
    rw [Shape.rowMajor_val_four, Shape.rowMajor_val_two]
    show y.val * 128 + d.val = ((0 * 1 + 0) * 4 + y.val) * 128 + d.val
    omega)]
  refine congrArg₂ (fun (u w : EReal) => u * w) (extractStridedSlice_apply _ g hg (ix2 y d) (ix2 h x) ?_) ?_
  · intro c
    fin_cases c
    · exact eh
    · exact ex
  · rw [broadcastTo_apply _ broadcasts_S4x1_S4x128 (ix2 y d) (ix2 y 0) (by intro c; fin_cases c <;> rfl)]
    refine extractStridedSlice_apply _ r hr (ix2 y 0) (ix2 h 0) ?_
    intro c
    fin_cases c
    · exact eh
    · rfl

/-- The weighted values over the weights' sum, at one index. -/
theorem ratio_at (x : Fin 1024) :
    (mix (weights s) v (ix2 h x) : EReal) * recip (total (weights s)) (ix2 h 0)
      = (∑ k : Fin 14 × Fin 64, Ideal.exp ((s k.1 (ix2 h k.2) : EReal) - top s (ix2 h 0)) * v k.1 (ix3 0 k.2 x))
        * Ideal.div 1 (∑ k : Fin 14 × Fin 64, Ideal.exp ((s k.1 (ix2 h k.2) : EReal) - top s (ix2 h 0))) := by
  rw [mix_at, recip_at, total_at]
  simp only [weights, weight_at]

end Cert.KernelIdeal.Body
-- ==== Proof.Real.Out.lean ====
/- What the body of `Cert.KernelIdeal` leaves in its output block, and what its input blocks hold. -/
module

public import proofs.«01_k».proof.Proof.Real.Body
public import proofs.«01_k».proof.Proof.Real.At
public import proofs.«01_k».proof.Proof.Real.Launched
public import Idealize.ShloMosaic.Lib.Pipeline.ValueKit

@[expose] public section

set_option maxRecDepth 16384

noncomputable section

namespace Cert.KernelIdeal.Body

open Cert.KernelIdeal Cert.KernelIdeal.Gen Idealize.ShloMosaic Idealize.ShloMosaic.TcCoe Idealize.SL.Sem
open scoped BigOperators

/-- The heads of a block, side by side: entry `(kv, r, d)` is row `4 kv + r` at column `128 kv + d`, scaled. -/
def heads (g : FVec Ideal S32x1024 .f32) (r : FVec Ideal S32x1 .f32) (kv : Fin 8) (y : Fin 4) (d : Fin 128) : EReal :=
  g (ix2 ⟨4 * kv.val + y.val, by omega⟩ ⟨128 * kv.val + d.val, by omega⟩) * r (ix2 ⟨4 * kv.val + y.val, by omega⟩ 0)

/-- A stored head agrees with them where it lies. -/
theorem head_tile (g : FVec Ideal S32x1024 .f32) (r : FVec Ideal S32x1 .f32) (n : ℕ) (a b : ℕ) (hn : a = 4 * n ∧ b = 128 * n)
    (hg : S32x1024.Slices ![a, b] S4x128) (hr : S32x1.Slices ![a, 0] S4x1) (kv : Fin 8) (y : Fin 4) (d : Fin 128) :
    View.TileAt (Val := Elt Ideal) (S := S1x8x4x128) (e := .f32) (ix4 0 kv y d) ![0, n, 0, 0] S1x1x4x128.size (head g r a b hg hr) (heads g r kv y d) := by
  intro x hx
  have h1 : kv.val = n + (x 1).val := hx 1
  have h2 : y.val = 0 + (x 2).val := hx 2
  have h3 : d.val = 0 + (x 3).val := hx 3
  have h1' : (x 1).val < 1 := (x 1).isLt
  have e : x = ix4 (0 : Fin 1) (0 : Fin 1) y d := by
    funext q
    fin_cases q
    · exact Subsingleton.elim (α := Fin 1) _ _
    · exact Subsingleton.elim (α := Fin 1) _ _
    · exact Fin.ext (by show (x 2).val = y.val; omega)
    · exact Fin.ext (by show (x 3).val = d.val; omega)
  rw [e]
  refine head_at g r a b hg hr y d _ _ ?_ ?_
  · show 4 * kv.val + y.val = a + y.val; omega
  · show 128 * kv.val + d.val = b + d.val; omega

theorem canon_stores (g : FVec Ideal S32x1024 .f32) (r : FVec Ideal S32x1 .f32) (kv : Fin 8) (y : Fin 4) (d : Fin 128) :
    View.canon (stores g r) (ix4 0 kv y d) = heads g r kv y d := by
  refine View.canon_eq_of_allAt _ _ _ ?_ ?_
  · exact View.cover_of_tiled_head _ _ _ rfl _
  · unfold stores
    refine View.allAt_cons_unit _ _ _ _ _ (head_tile g r 7 _ _ ⟨rfl, rfl⟩ _ _ kv y d) ?_
    refine View.allAt_cons_unit _ _ _ _ _ (head_tile g r 6 _ _ ⟨rfl, rfl⟩ _ _ kv y d) ?_
    refine View.allAt_cons_unit _ _ _ _ _ (head_tile g r 5 _ _ ⟨rfl, rfl⟩ _ _ kv y d) ?_
    refine View.allAt_cons_unit _ _ _ _ _ (head_tile g r 4 _ _ ⟨rfl, rfl⟩ _ _ kv y d) ?_
    refine View.allAt_cons_unit _ _ _ _ _ (head_tile g r 3 _ _ ⟨rfl, rfl⟩ _ _ kv y d) ?_
    refine View.allAt_cons_unit _ _ _ _ _ (head_tile g r 2 _ _ ⟨rfl, rfl⟩ _ _ kv y d) ?_
    refine View.allAt_cons_unit _ _ _ _ _ (head_tile g r 1 _ _ ⟨rfl, rfl⟩ _ _ kv y d) ?_
    refine View.allAt_cons_unit _ _ _ _ _ (head_tile g r 0 _ _ ⟨rfl, rfl⟩ _ _ kv y d) ?_
    exact fun p hp => absurd hp List.not_mem_nil

variable (m : (ℓ : Loc nD τ sig) → Buf (Elt Ideal) ℓ) (hO : Ok m) (c : Dev nD) (t : Fin (cfgM m hO).N)

/-- The row of queries a point works on. -/
abbrev row : Fin 32 := (grid0.coords t) 0

/-- The key blocks of a point. -/
def keyBlocks : Fin 14 → Vec Ideal S1x64x1024 .f32 := ![iblk m hO c 1 t, iblk m hO c 2 t, iblk m hO c 3 t, iblk m hO c 4 t, iblk m hO c 5 t, iblk m hO c 6 t, iblk m hO c 7 t, iblk m hO c 8 t, iblk m hO c 9 t, iblk m hO c 10 t, iblk m hO c 11 t, iblk m hO c 12 t, iblk m hO c 13 t, iblk m hO c 14 t]

/-- The value blocks of a point. -/
def valBlocks : Fin 14 → Vec Ideal S1x64x1024 .f32 := ![iblk m hO c 15 t, iblk m hO c 16 t, iblk m hO c 17 t, iblk m hO c 18 t, iblk m hO c 19 t, iblk m hO c 20 t, iblk m hO c 21 t, iblk m hO c 22 t, iblk m hO c 23 t, iblk m hO c 24 t, iblk m hO c 25 t, iblk m hO c 26 t, iblk m hO c 27 t, iblk m hO c 28 t]

/-- The scores of a point. -/
def pointScores : Fin 14 → FVec Ideal S32x64 .f32 :=
  scores (F := Ideal) ((tbl m 2 : IVec S32 32) (ix1 (row m hO t))) ((tbl m 3 : IVec S32 32) (ix1 (row m hO t)))
    (fun j => (tbl m 1 : IVec S32x14 32) (ix2 (row m hO t) j)) (iblk m hO c 0 t) (keyBlocks m hO c t)

set_option maxHeartbeats 1000000 in
theorem outsAt0_at (kv : Fin 8) (y : Fin 4) (d : Fin 128) :
    outsAt0 m hO c t (ix4 0 kv y d)
      = heads (mix (weights (pointScores m hO c t)) (valBlocks m hO c t)) (recip (total (weights (pointScores m hO c t)))) kv y d := by
  unfold outsAt0 out0_A_29
  refine (congrFun (View.read_writes_eq_canon _ _ _ ?_) _).trans ?_
  · intro z
    apply cover0_A_29
  refine (congrArg (fun L => View.canon L (ix4 0 kv y d)) (?_ : _ = stores
    (mix (weights (pointScores m hO c t)) (valBlocks m hO c t)) (recip (total (weights (pointScores m hO c t)))))).trans
    (canon_stores _ _ kv y d)
  apply pieces

end Cert.KernelIdeal.Body
-- ==== Proof.Real.Cuts.lean ====
/- The blocks that the windows of `Cert.KernelIdeal` cut from their arrays, at any table of places. -/
module

public import proofs.«01_k».proof.Proof.Real.Stores
public import proofs.«01_k».proof.Proof.Real.Out

@[expose] public section

set_option maxRecDepth 16384

noncomputable section

namespace Cert.KernelIdeal.Body

open Cert.KernelIdeal Cert.KernelIdeal.Gen Idealize.ShloMosaic Idealize.ShloMosaic.TcCoe Idealize.SL.Sem
open Cert.KernelIdeal.Host
open scoped BigOperators

/-- A spread query is the query at its own key head and zero elsewhere. -/
theorem query_at (q : FVec Ideal S32x32x128 .f32) (b h : Fin 32) (kv : Fin 8) (d : Fin 128) (x : Fin 1024)
    (hx : x.val = 128 * kv.val + d.val) :
    (spread q (ix3 b h x) : EReal) = q (ix3 b h d) * (if h.val / 4 = kv.val then 1 else 0) := by
  unfold spread
  rw [shapeCast_apply _ _ (ix3 b h x) (ix4 b h kv d) (by
    rw [Shape.rowMajor_val_four, Shape.rowMajor_val_three]
    show ((b.val * 32 + h.val) * 8 + kv.val) * 128 + d.val = (b.val * 32 + h.val) * 1024 + x.val
    omega)]
  refine congrArg₂ (fun u w : EReal => u * w) (congrArg q (by funext a; fin_cases a <;> rfl)) ?_
  have e : ∀ w : BitVec 1, (FloatOps.uitofp (F := Ideal) .f32 w : EReal) = if w = 1#1 then 1 else 0 := by
    intro w
    by_cases hw : w = 1#1
    · rw [hw]; simp [FloatOps.uitofp]
    · rw [ValueIdx.eq_zero_of_ne_one hw]; simp [FloatOps.uitofp]
  refine Eq.trans (b := (FloatOps.uitofp (F := Ideal) .f32 (picks (ix2 h kv)) : EReal))
    (congrArg (fun i => (FloatOps.uitofp (F := Ideal) .f32 (picks i) : EReal)) (by funext a; fin_cases a <;> rfl)) ?_
  rw [e, picks_at]
  split_ifs <;> simp_all

/-- A row of the store laid out by block: four pages of sixteen positions, the heads side by side. -/
theorem store_at (x : FVec Ideal S4096x16x8x128 .f32) (r : Fin 1024) (s : Fin 64) (kv : Fin 8) (d : Fin 128) (y : Fin 1024)
    (hy : y.val = 128 * kv.val + d.val) (p : Fin 4096) (o : Fin 16) (hp : p.val = 4 * r.val + s.val / 16) (ho : o.val = s.val % 16) :
    shapeCast S1024x64x1024 x shapeCasts_S4096x16x8x128_S1024x64x1024 (ix3 r s y) = x (ix4 p o kv d) :=
  shapeCast_apply x _ _ _ (by
    rw [Shape.rowMajor_val_four, Shape.rowMajor_val_three]
    show ((p.val * 16 + o.val) * 8 + kv.val) * 128 + d.val = (r.val * 64 + s.val) * 1024 + y.val
    omega)

/-- An entry of the table of places, as an index map reads it. -/
theorem place_at (pf : pre0.Contents (Elt Ideal)) (b : Fin 32) (j : ℕ) (hj : j < 14)
    (inb : ∀ a, ![(Scalar.indexCast (BitVec.ofNat 32 b.val) : Index).toNat, j] a + S1x1.size a ≤ S32x14.size a)
    (h : S1x1.numel = 1) :
    pf.at 0 (Rect.unit (s := S32x14) ![(Scalar.indexCast (BitVec.ofNat 32 b.val) : Index).toNat, j] S1x1.size inb) h
      = (pf 0 : IVec S32x14 32) (ix2 b ⟨j, hj⟩) := by
  have hb : b.val < 32 := b.isLt
  have e0 : (BitVec.ofNat 32 b.val).toNat + 1 * 0 = b.val := by
    rw [BitVec.toNat_ofNat]; omega
  refine congrArg (pf 0 : IVec S32x14 32) (funext fun a => Fin.ext ?_)
  fin_cases a
  · exact e0
  · show j + 1 * 0 = j; omega

variable (pf : pre0.Contents (Elt Ideal)) (hp : ok0 pf) (u : Fin (cfg0 (F := Ideal) ⟨pf, hp⟩).N)

theorem q_read (X : FVec Ideal S32x32x1024 .f32) (h : Fin 32) (x : Fin 1024) :
    (((cfg0 (F := Ideal) ⟨pf, hp⟩).win 0).blk u).view.read (Elt Ideal) X (ix3 0 h x) = X (ix3 ((grid0.coords u) 0) h x) := by
  have hb : ((grid0.coords u) 0).val < 32 := ((grid0.coords u) 0).isLt
  have e0 : (BitVec.ofNat 32 ((grid0.coords u) 0).val).toNat * 1 + 1 * 0 = ((grid0.coords u) 0).val := by
    rw [BitVec.toNat_ofNat]; omega
  refine congrArg X (funext fun a => Fin.ext ?_)
  fin_cases a
  · exact e0
  · show 0 * 32 + 1 * h.val = h.val; omega
  · show 0 * 1024 + 1 * x.val = x.val; omega

/-- The blocks of a store that a point's key windows are cut at. -/
def keyCuts (X : FVec Ideal S1024x64x1024 .f32) : Fin 14 → Vec Ideal S1x64x1024 .f32 :=
  ![(((cfg0 (F := Ideal) ⟨pf, hp⟩).win 1).blk u).view.read (Elt Ideal) X, (((cfg0 (F := Ideal) ⟨pf, hp⟩).win 2).blk u).view.read (Elt Ideal) X, (((cfg0 (F := Ideal) ⟨pf, hp⟩).win 3).blk u).view.read (Elt Ideal) X, (((cfg0 (F := Ideal) ⟨pf, hp⟩).win 4).blk u).view.read (Elt Ideal) X, (((cfg0 (F := Ideal) ⟨pf, hp⟩).win 5).blk u).view.read (Elt Ideal) X, (((cfg0 (F := Ideal) ⟨pf, hp⟩).win 6).blk u).view.read (Elt Ideal) X, (((cfg0 (F := Ideal) ⟨pf, hp⟩).win 7).blk u).view.read (Elt Ideal) X, (((cfg0 (F := Ideal) ⟨pf, hp⟩).win 8).blk u).view.read (Elt Ideal) X, (((cfg0 (F := Ideal) ⟨pf, hp⟩).win 9).blk u).view.read (Elt Ideal) X, (((cfg0 (F := Ideal) ⟨pf, hp⟩).win 10).blk u).view.read (Elt Ideal) X, (((cfg0 (F := Ideal) ⟨pf, hp⟩).win 11).blk u).view.read (Elt Ideal) X, (((cfg0 (F := Ideal) ⟨pf, hp⟩).win 12).blk u).view.read (Elt Ideal) X, (((cfg0 (F := Ideal) ⟨pf, hp⟩).win 13).blk u).view.read (Elt Ideal) X, (((cfg0 (F := Ideal) ⟨pf, hp⟩).win 14).blk u).view.read (Elt Ideal) X]

set_option maxHeartbeats 4000000 in
theorem keyCuts_at (X : FVec Ideal S1024x64x1024 .f32) (i : Fin 14) (r : Fin 1024)
    (hr : r.val = ((pf 0 : IVec S32x14 32) (ix2 ((grid0.coords u) 0) i)).toNat) (s : Fin 64) (x : Fin 1024) :
    keyCuts pf hp u X i (ix3 0 s x) = X (ix3 r s x) := by
  have e1 : 0 * 64 + 1 * s.val = s.val := by omega
  have e2 : 0 * 1024 + 1 * x.val = x.val := by omega
  have e0 : ∀ w : BitVec 32, w.toNat = r.val → w.toNat * 1 + 1 * 0 = r.val := fun w h => by omega
  fin_cases i
  all_goals
    refine congrArg X (funext fun a => Fin.ext ?_)
    fin_cases a
    · exact e0 _ ((congrArg BitVec.toNat (place_at pf ((grid0.coords u) 0) _ (by decide) _ _)).trans hr.symm)
    · exact e1
    · exact e2

/-- The blocks of a store that a point's val windows are cut at. -/
def valCuts (X : FVec Ideal S1024x64x1024 .f32) : Fin 14 → Vec Ideal S1x64x1024 .f32 :=
  ![(((cfg0 (F := Ideal) ⟨pf, hp⟩).win 15).blk u).view.read (Elt Ideal) X, (((cfg0 (F := Ideal) ⟨pf, hp⟩).win 16).blk u).view.read (Elt Ideal) X, (((cfg0 (F := Ideal) ⟨pf, hp⟩).win 17).blk u).view.read (Elt Ideal) X, (((cfg0 (F := Ideal) ⟨pf, hp⟩).win 18).blk u).view.read (Elt Ideal) X, (((cfg0 (F := Ideal) ⟨pf, hp⟩).win 19).blk u).view.read (Elt Ideal) X, (((cfg0 (F := Ideal) ⟨pf, hp⟩).win 20).blk u).view.read (Elt Ideal) X, (((cfg0 (F := Ideal) ⟨pf, hp⟩).win 21).blk u).view.read (Elt Ideal) X, (((cfg0 (F := Ideal) ⟨pf, hp⟩).win 22).blk u).view.read (Elt Ideal) X, (((cfg0 (F := Ideal) ⟨pf, hp⟩).win 23).blk u).view.read (Elt Ideal) X, (((cfg0 (F := Ideal) ⟨pf, hp⟩).win 24).blk u).view.read (Elt Ideal) X, (((cfg0 (F := Ideal) ⟨pf, hp⟩).win 25).blk u).view.read (Elt Ideal) X, (((cfg0 (F := Ideal) ⟨pf, hp⟩).win 26).blk u).view.read (Elt Ideal) X, (((cfg0 (F := Ideal) ⟨pf, hp⟩).win 27).blk u).view.read (Elt Ideal) X, (((cfg0 (F := Ideal) ⟨pf, hp⟩).win 28).blk u).view.read (Elt Ideal) X]

set_option maxHeartbeats 4000000 in
theorem valCuts_at (X : FVec Ideal S1024x64x1024 .f32) (i : Fin 14) (r : Fin 1024)
    (hr : r.val = ((pf 0 : IVec S32x14 32) (ix2 ((grid0.coords u) 0) i)).toNat) (s : Fin 64) (x : Fin 1024) :
    valCuts pf hp u X i (ix3 0 s x) = X (ix3 r s x) := by
  have e1 : 0 * 64 + 1 * s.val = s.val := by omega
  have e2 : 0 * 1024 + 1 * x.val = x.val := by omega
  have e0 : ∀ w : BitVec 32, w.toNat = r.val → w.toNat * 1 + 1 * 0 = r.val := fun w h => by omega
  fin_cases i
  all_goals
    refine congrArg X (funext fun a => Fin.ext ?_)
    fin_cases a
    · exact e0 _ ((congrArg BitVec.toNat (place_at pf ((grid0.coords u) 0) _ (by decide) _ _)).trans hr.symm)
    · exact e1
    · exact e2

end Cert.KernelIdeal.Body
-- ==== Proof.Real.Blocks.lean ====
/- What the input blocks of `Cert.KernelIdeal` hold, from the arguments. -/
module

public import proofs.«01_k».proof.Proof.Real.Cuts
public import proofs.«01_k».proof.Proof.Real.Out

@[expose] public section

set_option maxRecDepth 16384

noncomputable section

namespace Cert.KernelIdeal.Body

open Cert.KernelIdeal Cert.KernelIdeal.Gen Idealize.ShloMosaic Idealize.ShloMosaic.TcCoe Idealize.SL.Sem
open Cert.KernelIdeal.Host
open scoped BigOperators

variable (m : (ℓ : Loc nD τ sig) → Buf (Elt Ideal) ℓ) (hO : Ok m) (c : Dev nD) (t : Fin (cfgM m hO).N)

/-- The query block of a point is its row of the spread queries. -/
theorem iblk_q (h : Fin 32) (x : Fin 1024) :
    iblk m hO c 0 t (ix3 0 h x) = (V m c main_v253 : FVec Ideal S32x32x1024 .f32) (ix3 (row m hO t) h x) :=
  q_read (tbl m) hO t (V m c main_v253) h x

theorem keyBlocks_at (i : Fin 14) (r : Fin 1024) (hr : r.val = ((tbl m 0 : IVec S32x14 32) (ix2 (row m hO t) i)).toNat)
    (s : Fin 64) (x : Fin 1024) :
    keyBlocks m hO c t i (ix3 0 s x) = (V m c main_v254 : FVec Ideal S1024x64x1024 .f32) (ix3 r s x) :=
  keyCuts_at (tbl m) hO t (V m c main_v254) i r hr s x

theorem valBlocks_at (i : Fin 14) (r : Fin 1024) (hr : r.val = ((tbl m 0 : IVec S32x14 32) (ix2 (row m hO t) i)).toNat)
    (s : Fin 64) (x : Fin 1024) :
    valBlocks m hO c t i (ix3 0 s x) = (V m c main_v255 : FVec Ideal S1024x64x1024 .f32) (ix3 r s x) :=
  valCuts_at (tbl m) hO t (V m c main_v255) i r hr s x

end Cert.KernelIdeal.Body
-- ==== Proof.Real.Point.lean ====
/- One point of `Cert.KernelIdeal`: the heads of its block are the reference's, for blocks cut from the two stores. -/
module

public import proofs.«01_k».proof.Proof.Real.At
public import proofs.«01_k».proof.Proof.Real.Out
public import proofs.«01_k».proof.Proof.RefSoft
public import proofs.«01_k».proof.Proof.Attend

@[expose] public section

set_option maxRecDepth 16384

noncomputable section

namespace Cert.KernelIdeal.Body

open Cert.KernelIdeal Idealize.ShloMosaic Idealize.ShloMosaic.TcCoe Idealize.SL.Sem
open Cert.Tables Cert.Ref Cert.ReferenceIdeal.Read
open scoped BigOperators

/-- A sum along the spread columns is the sum along one head. -/
theorem sum_heads (f g : Fin 1024 → EReal) (p r : Fin 128 → EReal) (kv : Fin 8)
    (hf : ∀ (k : Fin 8) (d : Fin 128) (x : Fin 1024), x.val = 128 * k.val + d.val → f x = p d * (if kv.val = k.val then 1 else 0))
    (hg : ∀ (d : Fin 128) (x : Fin 1024), x.val = 128 * kv.val + d.val → g x = r d) :
    ∑ x, f x * g x = ∑ d, p d * r d := by
  rw [← Equiv.sum_comp (finProdFinEquiv : Fin 8 × Fin 128 ≃ Fin (8 * 128)) (fun x : Fin 1024 => f x * g x), Fintype.sum_prod_type,
    Finset.sum_eq_single kv]
  · refine Finset.sum_congr rfl fun d _ => ?_
    have e : ((finProdFinEquiv (kv, d) : Fin (8 * 128)) : ℕ) = 128 * kv.val + d.val := by
      show d.val + 128 * kv.val = _
      omega
    rw [hf kv d (finProdFinEquiv (kv, d) : Fin (8 * 128)) e, hg d (finProdFinEquiv (kv, d) : Fin (8 * 128)) e, if_pos rfl, mul_one]
  · intro k _ hk
    refine Finset.sum_eq_zero fun d _ => ?_
    have e : ((finProdFinEquiv (k, d) : Fin (8 * 128)) : ℕ) = 128 * k.val + d.val := by
      show d.val + 128 * k.val = _
      omega
    rw [hf k d (finProdFinEquiv (k, d) : Fin (8 * 128)) e, if_neg (fun h => hk (Fin.ext h.symm)), mul_zero, zero_mul]
  · exact fun h => absurd (Finset.mem_univ _) h

/-- The scale is a number. -/
theorem scale_real : ∃ r : ℝ, scale = (r : EReal) := ⟨_, rfl⟩

/-- A scaled product of numbers is a number. -/
theorem dot_real (p r : Fin 128 → EReal) (hp : ∀ d, ∃ a : ℝ, p d = (a : EReal)) (hr : ∀ d, ∃ a : ℝ, r d = (a : EReal)) :
    ∃ a : ℝ, (∑ d, p d * r d) * scale = (a : EReal) := by
  choose p' hp using hp
  choose r' hr using hr
  obtain ⟨z, hz⟩ := scale_real
  refine ⟨(∑ d, p' d * r' d) * z, ?_⟩
  simp only [hp, hr, hz, ← EReal.coe_mul]
  rw [EReal.coe_mul]
  exact congrArg (fun w : EReal => w * z)
    (map_sum (⟨⟨Real.toEReal, rfl⟩, fun x y => EReal.coe_add x y⟩ : ℝ →+ EReal) (fun d => p' d * r' d) Finset.univ).symm

/-- The position that a slot of a listed block stands for. -/
def slot (q : Fin 32) (k : Fin 14 × Fin 64) : Fin 2048 :=
  ⟨64 * blk q k.1 + k.2.val, by have := blk_lt q k.1; have := k.2.isLt; omega⟩

variable (x0 : FVec Ideal S32x32x128 .f32) (x1 x2 : FVec Ideal S4096x16x8x128 .f32) (x3 : IVec S32x128 32) (x4 : IVec S32 32)
  (hT : InOrder x3) (b h : Fin 32) (h1 : 1 ≤ (x4 (ix1 b)).toNat) (h2 : (x4 (ix1 b)).toNat ≤ 2048)

/-- A key or value block that holds the listed block of a store. -/
def Holds (X : Fin 14 → Vec Ideal S1x64x1024 .f32) (x : FVec Ideal S4096x16x8x128 .f32) (q : Fin 32) : Prop :=
  ∀ (k : Fin 14 × Fin 64), k.1.val < num q → ∀ (g h : Fin 32) (kv : Fin 8) (d : Fin 128) (y : Fin 1024), g = b → h.val / 4 = kv.val →
    y.val = 128 * kv.val + d.val → X k.1 (ix3 0 k.2 y) = at4 x g (slot q k) h d

include hT h1 h2 in
/-- The heads of a point are the reference's. -/
theorem heads_eq (Q : Vec Ideal S1x32x1024 .f32) (K W : Fin 14 → Vec Ideal S1x64x1024 .f32)
    (f0 : ∀ i, ∃ a : ℝ, (x0 i : EReal) = (a : EReal)) (f1 : ∀ i, ∃ a : ℝ, (x1 i : EReal) = (a : EReal))
    (hQ : ∀ (h : Fin 32) (kv : Fin 8) (d : Fin 128) (x : Fin 1024), x.val = 128 * kv.val + d.val →
      (Q (ix3 0 h x) : EReal) = x0 (ix3 b h d) * (if h.val / 4 = kv.val then 1 else 0))
    (hK : Holds b K x1 (qOf x4 b)) (hW : Holds b W x2 (qOf x4 b))
    (S : Fin 14 → FVec Ideal S32x64 .f32)
    (hS : S = scores (F := Ideal) (w32 (num (qOf x4 b))) (w32 ((x4 (ix1 b)).toNat - 1)) (fun j => w32 (blk (qOf x4 b) j)) Q K)
    (kv : Fin 8) (y : Fin 4) (d : Fin 128) (hh : h.val = 4 * kv.val + y.val) :
    heads (mix (weights S) W) (recip (total (weights S))) kv y d
      = val_main_v62 (F := Ideal) x0 x1 x2 x3 x4 (ix3 b h d) := by
  have hkv : h.val / 4 = kv.val := by omega
  have eh : (⟨4 * kv.val + y.val, by omega⟩ : Fin 32) = h := Fin.ext hh.symm
  have hq : (qOf x4 b).val = ((x4 (ix1 b)).toNat - 1) / 64 := by
    show _ % 32 = _
    omega
  have hfin : ∀ t, ∃ a : ℝ, (∑ d : Fin 128, (x0 (ix3 b h d) : EReal) * at4 x1 b t h d) * scale = (a : EReal) := fun t =>
    dot_real _ _ (fun d => f0 _) (fun d => f1 _)
  have hs : ∀ t, logit x0 x1 (x4 (ix1 b)).toNat b h t ≠ ⊤ := by
    intro t
    obtain ⟨a, ha⟩ := hfin t
    unfold logit
    split_ifs
    · rw [ha]; exact EReal.coe_ne_top a
    · exact bot_ne_top
  have hne : ∃ t, logit x0 x1 (x4 (ix1 b)).toNat b h t ≠ ⊥ := by
    refine ⟨⟨(x4 (ix1 b)).toNat - 1, by omega⟩, ?_⟩
    obtain ⟨a, ha⟩ := hfin ⟨(x4 (ix1 b)).toNat - 1, by omega⟩
    unfold logit
    rw [if_pos (show keep _ _ from ⟨show (x4 (ix1 b)).toNat - 1 < (x4 (ix1 b)).toNat by omega, le_refl _,
      Or.inl (show ((x4 (ix1 b)).toNat - 1) / 64 < ((x4 (ix1 b)).toNat - 1) / 64 + 8 by omega)⟩), ha]
    exact EReal.coe_ne_bot a
  have hsc : ∀ k : Fin 14 × Fin 64, (S k.1 (ix2 h k.2) : EReal)
      = if 64 * blk (qOf x4 b) k.1 + k.2.val < (x4 (ix1 b)).toNat ∧ k.1.val < num (qOf x4 b)
        then (∑ x : Fin 1024, Q (ix3 0 h x) * K k.1 (ix3 0 k.2 x)) * scale else ⊥ := by
    intro k
    rw [hS]
    exact score_num _ _ _ _ (num_le _) ⟨h1, h2⟩ (blk_lt _ _) k.1.isLt Q (K k.1) h k.2
  have hL : Cert.Attend.Lists (logit x0 x1 (x4 (ix1 b)).toNat b h) (fun k : Fin 14 × Fin 64 => (S k.1 (ix2 h k.2) : EReal))
      (fun k => k.1.val < num (qOf x4 b)) (slot (qOf x4 b)) := by
    refine ⟨?_, ?_, ?_, ?_⟩
    · intro k k' hk hk' e
      have e' : 64 * blk (qOf x4 b) k.1 + k.2.val = 64 * blk (qOf x4 b) k'.1 + k'.2.val := congrArg Fin.val e
      have l := k.2.isLt
      have l' := k'.2.isLt
      exact Prod.ext (blk_inj _ _ _ hk hk' (by omega)) (Fin.ext (by omega))
    · intro k hk
      have hdiv : (slot (qOf x4 b) k).val / 64 = blk (qOf x4 b) k.1 := by
        have l := k.2.isLt
        show (64 * _ + _) / 64 = _
        omega
      have hact : active (((x4 (ix1 b)).toNat - 1) / 64) ((slot (qOf x4 b) k).val / 64) := by
        rw [hdiv, ← hq]
        exact blk_active _ _ hk
      have hsum := sum_heads (fun x => Q (ix3 0 h x)) (fun x => K k.1 (ix3 0 k.2 x)) (fun d => x0 (ix3 b h d))
        (fun d => at4 x1 b (slot (qOf x4 b) k) h d) kv (fun k' d x hx => by rw [hQ h k' d x hx, hkv])
        (fun d x hx => hK k hk b h kv d x rfl hkv hx)
      show (S k.1 (ix2 h k.2) : EReal) = _
      rw [hsc k]
      unfold logit
      by_cases hlt : 64 * blk (qOf x4 b) k.1 + k.2.val < (x4 (ix1 b)).toNat
      · rw [if_pos ⟨hlt, hk⟩, if_pos ⟨hlt, hact⟩]
        exact congrArg (fun a : EReal => a * scale) hsum
      · rw [if_neg (fun h => hlt h.1), if_neg (fun h => hlt h.1)]
    · intro k hk
      show (S k.1 (ix2 h k.2) : EReal) = _
      rw [hsc k, if_neg (fun h => hk h.2)]
    · intro t ht
      have hk : keep (x4 (ix1 b)).toNat t := by
        by_contra hn
        exact ht (by unfold logit; rw [if_neg hn])
      have ha := hk.2
      rw [← hq] at ha
      obtain ⟨i, hi, he⟩ := blk_onto (qOf x4 b) ⟨t.val / 64, by omega⟩ ha
      refine ⟨(i, ⟨t.val % 64, by omega⟩), hi, Fin.ext ?_⟩
      show 64 * blk (qOf x4 b) i + t.val % 64 = t.val
      rw [he]
      show 64 * (t.val / 64) + t.val % 64 = t.val
      omega
  rw [result_at x0 x1 x2 x3 x4 hT b h h1 h2 d]
  unfold heads
  rw [eh, ratio_at]
  exact Cert.Attend.attend_eq hL hs hne (Cert.Ref.top_at x0 x1 x3 x4 hT b h h1 h2) (top_at S h)
    (fun t => at4 x2 b t h d) (fun k => W k.1 (ix3 0 k.2 ⟨128 * kv.val + d.val, by omega⟩))
    (fun k hk => hW k hk b h kv d _ rfl hkv rfl)

end Cert.KernelIdeal.Body
-- ==== Proof.Real.Value.lean ====
/- What a point of `Cert.KernelIdeal` leaves in its output block: the reference's rows. -/
module

public import proofs.«01_k».proof.Proof.Real.Blocks
public import proofs.«01_k».proof.Proof.Real.Point

@[expose] public section

set_option maxRecDepth 16384

noncomputable section

namespace Cert.KernelIdeal.Body

open Cert.KernelIdeal Cert.KernelIdeal.Gen Idealize.ShloMosaic Idealize.ShloMosaic.TcCoe Idealize.SL.Sem
open Cert.KernelIdeal.Host
open Cert.Tables
open Cert.Ref (InOrder at4)
open Cert.ReferenceIdeal.Read (val_main_v62)
open scoped BigOperators

variable (m : (ℓ : Loc nD τ sig) → Buf (Elt Ideal) ℓ)

/-- The arguments of a device. -/
abbrev argQ (c : Dev nD) : FVec Ideal S32x32x128 .f32 := m ((c : Thread nD τ).loc main_arg0)
abbrev argK (c : Dev nD) : FVec Ideal S4096x16x8x128 .f32 := m ((c : Thread nD τ).loc main_arg1)
abbrev argV (c : Dev nD) : FVec Ideal S4096x16x8x128 .f32 := m ((c : Thread nD τ).loc main_arg2)
abbrev argT (c : Dev nD) : IVec S32x128 32 := m ((c : Thread nD τ).loc main_arg3)

/-- The lengths are from one to all the slots. -/
def Lengths (x : IVec S32 32) : Prop := ∀ b : Fin 32, 1 ≤ (x (ix1 b)).toNat ∧ (x (ix1 b)).toNat ≤ 2048

variable (hL : Lengths (ctx m 0))

include hL

theorem tbl_num (b : Fin 32) : (tbl m 2 : IVec S32 32) (ix1 b) = w32 (num (qOf (ctx m 0) b)) :=
  (congrFun (V_v35 m 0) (ix1 b)).trans (num_at _ b _ (qBlock_at (ctx m 0) b (hL b).1 (hL b).2))

theorem tbl_last (b : Fin 32) : (tbl m 3 : IVec S32 32) (ix1 b) = w32 ((ctx m 0 (ix1 b)).toNat - 1) :=
  (congrFun (V_v1 m 0) (ix1 b)).trans (lastPos_at (ctx m 0) b (hL b).1 (hL b).2)

theorem tbl_blk (b : Fin 32) (i : Fin 14) : (tbl m 1 : IVec S32x14 32) (ix2 b i) = w32 (blk (qOf (ctx m 0) b) i) :=
  (congrFun (V_v40 m 0) (ix2 b i)).trans (blocks_at _ b _ (qBlock_at (ctx m 0) b (hL b).1 (hL b).2) i)

theorem tbl_place (b : Fin 32) (i : Fin 14) (h : i.val < num (qOf (ctx m 0) b)) :
    (tbl m 0 : IVec S32x14 32) (ix2 b i) = w32 (32 * b + blk (qOf (ctx m 0) b) i) :=
  (V_v238 m 0 b i).trans (chain_at _ (qOf (ctx m 0)) (fun b => qBlock_at (ctx m 0) b (hL b).1 (hL b).2) b i h)

omit hL in
/-- A store cut into blocks of whole pages, read where the reference reads it. -/
theorem held (x : FVec Ideal S4096x16x8x128 .f32) (b : Fin 32) (q : Fin 32) (k : Fin 14 × Fin 64) (h : Fin 32) (kv : Fin 8)
    (d : Fin 128) (y : Fin 1024) (hh : h.val / 4 = kv.val) (hy : y.val = 128 * kv.val + d.val) (r : Fin 1024)
    (hr : r.val = 32 * b.val + blk q k.1) :
    shapeCast S1024x64x1024 x shapeCasts_S4096x16x8x128_S1024x64x1024 (ix3 r k.2 y) = at4 x b (slot q k) h d := by
  have hb := blk_lt q k.1
  have hk := k.2.isLt
  have e : (⟨h.val / 4, by omega⟩ : Fin 8) = kv := Fin.ext hh
  unfold at4
  rw [e]
  refine store_at x r k.2 kv d y hy _ _ ?_ ?_
  · show 128 * b.val + (64 * blk q k.1 + k.2.val) / 16 = 4 * r.val + k.2.val / 16
    omega
  · show (64 * blk q k.1 + k.2.val) % 16 = k.2.val % 16
    omega

omit hL in
theorem place_val (b : Fin 32) (q : Fin 32) (i : Fin 14) : (w32 (32 * b + blk q i)).toNat = 32 * b.val + blk q i := by
  have hb := blk_lt q i
  show (BitVec.ofNat 32 _).toNat = _
  rw [BitVec.toNat_ofNat]
  omega

variable (hO : Ok m) (t : Fin (cfgM m hO).N)

/-- The key blocks of a point are the listed ones. -/
theorem keys_held : Holds (row m hO t) (keyBlocks m hO 0 t) (argK m 0) (qOf (ctx m 0) (row m hO t)) := by
  generalize hb : row m hO t = b
  intro k hk g h kv d y hg hh hy
  subst hg
  have hl := blk_lt (qOf (ctx m 0) g) k.1
  refine (keyBlocks_at m hO 0 t k.1 ⟨32 * g.val + blk (qOf (ctx m 0) g) k.1, by omega⟩ ?_ k.2 y).trans ?_
  · rw [hb, tbl_place m hL g k.1 hk, place_val]
  · exact (congrFun (V_v254 m 0) _).trans (held _ g _ k h kv d y hh hy _ rfl)

/-- So are its value blocks. -/
theorem vals_held : Holds (row m hO t) (valBlocks m hO 0 t) (argV m 0) (qOf (ctx m 0) (row m hO t)) := by
  generalize hb : row m hO t = b
  intro k hk g h kv d y hg hh hy
  subst hg
  have hl := blk_lt (qOf (ctx m 0) g) k.1
  refine (valBlocks_at m hO 0 t k.1 ⟨32 * g.val + blk (qOf (ctx m 0) g) k.1, by omega⟩ ?_ k.2 y).trans ?_
  · rw [hb, tbl_place m hL g k.1 hk, place_val]
  · exact (congrFun (V_v255 m 0) _).trans (held _ g _ k h kv d y hh hy _ rfl)

/-- The scores of a point, from the arguments. -/
theorem scores_at : pointScores m hO 0 t = scores (F := Ideal) (w32 (num (qOf (ctx m 0) (row m hO t))))
    (w32 ((ctx m 0 (ix1 (row m hO t))).toNat - 1)) (fun j => w32 (blk (qOf (ctx m 0) (row m hO t)) j))
    (iblk m hO 0 0 t) (keyBlocks m hO 0 t) := by
  unfold pointScores
  rw [tbl_num m hL, tbl_last m hL, funext (tbl_blk m hL (row m hO t))]

/-- A point's output block is its row of the reference's result. -/
theorem point_value (hT : InOrder (argT m 0)) (f0 : ∀ i, ∃ a : ℝ, (argQ m 0 i : EReal) = (a : EReal))
    (f1 : ∀ i, ∃ a : ℝ, (argK m 0 i : EReal) = (a : EReal)) (kv : Fin 8) (y : Fin 4) (d : Fin 128) :
    outsAt0 m hO 0 t (ix4 0 kv y d)
      = val_main_v62 (F := Ideal) (argQ m 0) (argK m 0) (argV m 0) (argT m 0) (ctx m 0)
          (ix3 (row m hO t) ⟨4 * kv.val + y.val, by omega⟩ d) :=
  (outsAt0_at m hO 0 t kv y d).trans
    (heads_eq (argQ m 0) (argK m 0) (argV m 0) (argT m 0) (ctx m 0) hT (row m hO t) ⟨4 * kv.val + y.val, by omega⟩
      (hL _).1 (hL _).2 (iblk m hO 0 0 t) (keyBlocks m hO 0 t) (valBlocks m hO 0 t) f0 f1
      (fun h kv d x hx => (iblk_q m hO 0 t h x).trans ((congrFun (V_v253 m 0) _).trans (query_at _ _ h kv d x hx)))
      (keys_held m hL hO t) (vals_held m hL hO t) (pointScores m hO 0 t) (scores_at m hL hO t) kv y d rfl)

end Cert.KernelIdeal.Body

end
-- ==== Proof.Real.Tail.lean ====
/- The output array of `Cert.KernelIdeal`, from its blocks, and the result read from it. -/
module

public import proofs.«01_k».proof.Proof.Real.Frame
public import proofs.«01_k».proof.Proof.Real.Cuts
public import Idealize.ShloMosaic.Lib.Pipeline.Value

@[expose] public section

set_option maxRecDepth 16384

noncomputable section

namespace Cert.KernelIdeal.Body

open Cert.KernelIdeal Cert.KernelIdeal.Gen Idealize.ShloMosaic Idealize.ShloMosaic.TcCoe Idealize.SL.Sem
open Idealize.ShloMosaic.StableHlo (after)

/-! ## The output window, at any tables -/

section Geometry

variable (pf : pre0.Contents (Elt Ideal)) (hp : ok0 pf) (u : Fin (cfg0 (F := Ideal) ⟨pf, hp⟩).N)

/-- The output window at a point is that row of the output array. -/
theorem out_emb (kv : Fin 8) (y : Fin 4) (d : Fin 128) :
    (((cfg0 (F := Ideal) ⟨pf, hp⟩).win 29).blk u).view.emb (ix4 (0 : Fin 1) kv y d)
      = (ix4 ((grid0.coords u) 0 : Fin 32) kv y d : S32x8x4x128.Idx) := by
  have hb : ((grid0.coords u) 0).val < 32 := ((grid0.coords u) 0).isLt
  have e0 : (BitVec.ofNat 32 ((grid0.coords u) 0).val).toNat * 1 + 1 * 0 = ((grid0.coords u) 0).val := by
    rw [BitVec.toNat_ofNat]; omega
  refine funext fun a => Fin.ext ?_
  fin_cases a
  · exact e0
  · show 0 * 8 + 1 * kv.val = kv.val; omega
  · show 0 * 4 + 1 * y.val = y.val; omega
  · show 0 * 128 + 1 * d.val = d.val; omega

/-- A block that holds its row of an array is that array read at the point. -/
theorem cut_eq (A : Vec Ideal S1x8x4x128 .f32) (G : FVec Ideal S32x8x4x128 .f32)
    (h : ∀ (kv : Fin 8) (y : Fin 4) (d : Fin 128), A (ix4 0 kv y d) = G (ix4 ((grid0.coords u) 0) kv y d)) :
    ((cfg0 (F := Ideal) ⟨pf, hp⟩).win 29).cut ((cfg0 (F := Ideal) ⟨pf, hp⟩).grid.coords u) A
      = (((cfg0 (F := Ideal) ⟨pf, hp⟩).win 29).blk u).view.read (Elt Ideal) G := by
  refine funext fun (z : S1x8x4x128.Idx) => ?_
  obtain ⟨kv, y, d, rfl⟩ : ∃ (kv : Fin 8) (y : Fin 4) (d : Fin 128), z = ix4 0 kv y d := by
    refine ⟨z 1, z 2, z 3, funext fun a => ?_⟩
    fin_cases a
    · exact Subsingleton.elim (α := Fin 1) _ _
    · rfl
    · rfl
    · rfl
  refine (h kv y d).trans ?_
  exact congrArg G (out_emb pf hp u kv y d).symm

theorem point_of : ∀ b : Fin 32, ∃ t : Fin grid0.N, ((grid0.coords t) 0).val = b.val := by decide +kernel

/-- The points' blocks are the whole output array. -/
theorem cover (i : S32x8x4x128.Idx) :
    ∃ t : Fin (cfg0 (F := Ideal) ⟨pf, hp⟩).N, ((cfg0 (F := Ideal) ⟨pf, hp⟩).win 29).flush t = true
      ∧ i ∈ (((cfg0 (F := Ideal) ⟨pf, hp⟩).win 29).blk t).view.set := by
  obtain ⟨t, ht⟩ := point_of (i 0)
  refine ⟨t, flush0_29 ⟨pf, hp⟩ t, ?_⟩
  have e : (((cfg0 (F := Ideal) ⟨pf, hp⟩).win 29).blk t).view.emb (ix4 (0 : Fin 1) (i 1 : Fin 8) (i 2 : Fin 4) (i 3 : Fin 128)) = i := by
    refine (out_emb pf hp t (i 1) (i 2) (i 3)).trans (funext fun a => ?_)
    fin_cases a
    · exact Fin.ext ht
    · rfl
    · rfl
    · rfl
  have := View.emb_mem_set (((cfg0 (F := Ideal) ⟨pf, hp⟩).win 29).blk t).view (ix4 (0 : Fin 1) (i 1 : Fin 8) (i 2 : Fin 4) (i 3 : Fin 128))
  rw [e] at this
  exact this

end Geometry

variable (m : (ℓ : Loc nD τ sig) → Buf (Elt Ideal) ℓ) (hO : Ok m) (c : Dev nD)

/-- The output array ends holding what the points leave. -/
theorem final (G : FVec Ideal S32x8x4x128 .f32)
    (h : ∀ (t : Fin (cfgM m hO).N) (kv : Fin 8) (y : Fin 4) (d : Fin 128),
      outsAt0 m hO c t (ix4 0 kv y d) = G (ix4 ((grid0.coords t) 0) kv y d)) :
    (dats m hO 0 c).arrAt 29 (cfgM m hO).N = G :=
  (dats m hO 0 c).arrAt_eq_of_cover 29 G
    (fun t _ => (congrArg (((cfgM m hO).win 29).cut ((cfgM m hO).grid.coords t)) (after0_29 m hO c t)).trans
      (cut_eq (tbl m) hO t (outsAt0 m hO c t) G (h t)))
    (cover (tbl m) hO)

/-- The operation after the kernel: the result is the output array, its two head axes joined. -/
theorem tail_read (X : Valuation τ sig (Elt Ideal)) : after ([hostOps1 (F := Ideal)].flatten) X (Proc.devRef .tc main_v257)
    = shapeCast S32x32x128 (X (Proc.devRef .tc main_v256) : FVec Ideal S32x8x4x128 .f32) shapeCasts_S32x8x4x128_S32x32x128 := by
  simp only [hostOps1, List.flatten_cons, List.flatten_nil, List.append_nil]
  after_reads_simp
  rfl

/-- The result array's contents after the run. -/
theorem result_read (G : FVec Ideal S32x8x4x128 .f32) (h : (dats m hO 0 c).arrAt 29 (cfgM m hO).N = G) :
    Pipeline.afterTail pcfgs (fun _ => adm m hO) (dats m hO) 0 (V0 m) [hostOps1] c main_v257
      = shapeCast S32x32x128 G shapeCasts_S32x8x4x128_S32x32x128 := by
  refine (tail_read _).trans (congrArg (fun x => shapeCast S32x32x128 x shapeCasts_S32x8x4x128_S32x32x128) ?_)
  refine Eq.trans ?_ h
  exact Pipeline.withArrays_arr_shared spec0 c (V0 m c) (fun w => (dats m hO 0 c).arrAt w (cfgM m hO).N)
    ((dats m hO 0 c).arrAt_sharedIn sharedIn0 (V0 m c) (A_eq m hO c) _) 29

end Cert.KernelIdeal.Body

end
-- ==== Proof.Real.Result.lean ====
/- The result of `Cert.KernelIdeal`: the reference's, at every index. -/
module

public import proofs.«01_k».proof.Proof.Real.Value
public import proofs.«01_k».proof.Proof.Real.Tail

@[expose] public section

set_option maxRecDepth 16384

noncomputable section

namespace Cert.KernelIdeal.Body

open Cert.KernelIdeal Cert.KernelIdeal.Gen Idealize.ShloMosaic Idealize.ShloMosaic.TcCoe Idealize.SL.Sem
open Cert.KernelIdeal.Host
open Cert.Ref (InOrder)
open Cert.ReferenceIdeal.Read (val_main_v62)

variable (m : (ℓ : Loc nD τ sig) → Buf (Elt Ideal) ℓ) (ρ : Dev nD → PrngReg)

/-- The reference's result on a device's arguments. -/
def wanted (c : Dev nD) : FVec Ideal S32x32x128 .f32 :=
  val_main_v62 (F := Ideal) (argQ m c) (argK m c) (argV m c) (argT m c) (ctx m c)

/-- The same with its head axis cut into groups. -/
def grouped (X : FVec Ideal S32x32x128 .f32) : FVec Ideal S32x8x4x128 .f32 := fun i =>
  X (ix3 (i 0 : Fin 32) ⟨4 * (i 1 : Fin 8).val + (i 2 : Fin 4).val, by
    have h1 : (i 1 : Fin 8).val < 8 := (i 1).isLt
    have h2 : (i 2 : Fin 4).val < 4 := (i 2).isLt
    omega⟩ (i 3 : Fin 128))

/-- Cutting the head axis and joining it again changes nothing. -/
theorem joined (X : FVec Ideal S32x32x128 .f32) :
    shapeCast S32x32x128 (grouped X) shapeCasts_S32x8x4x128_S32x32x128 = X := by
  funext i
  obtain ⟨b, h, d, rfl⟩ : ∃ (b h : Fin 32) (d : Fin 128), i = ix3 b h d :=
    ⟨i 0, i 1, i 2, by funext a; fin_cases a <;> rfl⟩
  have hh := h.isLt
  refine (shapeCast_apply _ _ (ix3 b h d) (ix4 b ⟨h.val / 4, by omega⟩ ⟨h.val % 4, by omega⟩ d) (by
    rw [Shape.rowMajor_val_four, Shape.rowMajor_val_three]
    show ((b.val * 8 + h.val / 4) * 4 + h.val % 4) * 128 + d.val = (b.val * 32 + h.val) * 128 + d.val
    omega)).trans ?_
  refine congrArg X (funext fun a => Fin.ext ?_)
  fin_cases a
  · rfl
  · show 4 * (h.val / 4) + h.val % 4 = h.val
    omega
  · rfl

variable (hL : Lengths (ctx m 0)) (hT : InOrder (argT m 0)) (f0 : ∀ i, ∃ a : ℝ, (argQ m 0 i : EReal) = (a : EReal))
  (f1 : ∀ i, ∃ a : ℝ, (argK m 0 i : EReal) = (a : EReal))

include hL hT f0 f1

/-- The result array after the run. -/
theorem result (hO : Ok m) : Pipeline.afterTail pcfgs (fun _ => adm m hO) (dats m hO) 0 (V0 m) [hostOps1] 0 main_v257 = wanted m 0 :=
  (result_read m hO 0 (grouped (wanted m 0)) (final m hO 0 (grouped (wanted m 0)) fun t kv y d =>
    point_value m hL hO t hT f0 f1 kv y d)).trans (joined (wanted m 0))

/-- The run, read: the result is the reference's, the arguments are unchanged. -/
theorem run_value (hO : Ok m) : θ_run defs (onTc (τ := τ) (main (F := Ideal))) ⟨m, fun _ => 0, ρ⟩ (fun r => ∀ c : Dev nD,
      r.2.mem ((c.tc : Thread nD τ).loc main_v257) = wanted m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => by
      obtain rfl : c = 0 := Subsingleton.elim _ _
      exact ⟨((h 0).2 main_v257 (by decide : main_v257 ∈ Pipeline.restRefs sig spec0)).trans (result m hL hT f0 f1 hO),
        ((h 0).2 main_arg0 (by decide : main_arg0 ∈ Pipeline.restRefs sig spec0)).trans (W_main_arg0 m hO (dats m hO) 0),
        ((h 0).2 main_arg1 (by decide : main_arg1 ∈ Pipeline.restRefs sig spec0)).trans (W_main_arg1 m hO (dats m hO) 0),
        ((h 0).2 main_arg2 (by decide : main_arg2 ∈ Pipeline.restRefs sig spec0)).trans (W_main_arg2 m hO (dats m hO) 0),
        ((h 0).2 main_arg3 (by decide : main_arg3 ∈ Pipeline.restRefs sig spec0)).trans (W_main_arg3 m hO (dats m hO) 0),
        ((h 0).2 main_arg4 (by decide : main_arg4 ∈ Pipeline.restRefs sig spec0)).trans (W_main_arg4 m hO (dats m hO) 0)⟩)
    (run_main m ρ hO)

end Cert.KernelIdeal.Body

end
-- ==== Proof.Range.lean ====
/- What the precondition says of the arguments, read at an index. -/
module

public import proofs.«01_k».proof.Pre_inputs_in_range
public import proofs.«01_k».proof.Proof.Ref
public import Idealize.ShloMosaic.Lib.ReduceAll

@[expose] public section

set_option maxRecDepth 16384

noncomputable section

namespace Cert.Range

open Cert.Pre_inputs_in_range Idealize.ShloMosaic Idealize.ShloMosaic.TcCoe
open Cert.Tables (w32)
open Cert.Ref (InOrder)

/-- The side conditions of the precondition's operations. -/
instance facts : Cert.Pre_inputs_in_range.Facts where
  shapeCasts_S4096_S32x128 := by decide
  bcast_S_S32 := by decide
  reducesTo_S32_S_d0 := by decide
  h_S_ := by decide
  bcast_S_S32x32x128 := by decide
  reducesTo_S32x32x128_S_d0_1_2 := by decide
  bcast_S_S4096x16x8x128 := by decide
  reducesTo_S4096x16x8x128_S_d0_1_2_3 := by decide
  reducesTo_S32x128_S_d0_1 := by decide

instance : Subsingleton S_.Idx := ⟨fun a b => funext fun i => i.elim0⟩

theorem infinity : (FloatOps.ofBits (F := Ideal) .f32 0x7F800000#32 : EReal) = ⊤ := by
  show Ideal.ofBits .f32 0x7F800000#32 = ⊤
  simp [Ideal.ofBits, Ideal.ieee, -EReal.coe_mul]

theorem cmp_olt_one (x y : EReal) : Ideal.cmp .olt x y = 1#1 ↔ x < y := by
  show BitVec.ofBool (decide (x < y)) = 1#1 ↔ _
  by_cases h : x < y <;> simp [h]

/-- A number whose absolute value is less than infinity is a real one. -/
theorem real_of_abs (x : EReal) (h : max x (-x) < ⊤) : ∃ a : ℝ, x = (a : EReal) := by
  refine ⟨x.toReal, (EReal.coe_toReal ?_ ?_).symm⟩
  · rintro rfl; simp at h
  · rintro rfl; simp at h

theorem le_of_signed (w : BitVec 32) (h1 : IntOp.cmpi .sge w 1#32 = 1#1) (h2 : IntOp.cmpi .sle w 2048#32 = 1#1) :
    1 ≤ w.toNat ∧ w.toNat ≤ 2048 := by
  rw [IntOp.cmpi_sge] at h1
  rw [IntOp.cmpi_sle] at h2
  have e1 : (1#32 : BitVec 32).toInt = 1 := by decide
  have e2 : (2048#32 : BitVec 32).toInt = 2048 := by decide
  rw [e1] at h1
  rw [e2] at h2
  have := BitVec.toInt_eq_toNat_cond w
  split at this <;> omega

variable (x0 : FVec Ideal S32x32x128 .f32) (x1 x2 : FVec Ideal S4096x16x8x128 .f32) (x3 : IVec S32x128 32) (x4 : IVec S32 32)

/-- The four things the precondition asks. -/
theorem parts (h : Cert.Pre_inputs_in_range.fn (F := Ideal) x0 x1 x2 x3 x4 = fun _ => 1#1) :
    InOrder x3 ∧ (∀ b : Fin 32, 1 ≤ (x4 (ix1 b)).toNat ∧ (x4 (ix1 b)).toNat ≤ 2048)
      ∧ (∀ i, ∃ a : ℝ, x0 i = (a : EReal)) ∧ (∀ i, ∃ a : ℝ, x1 i = (a : EReal)) := by
  have h0 := congrFun h (fun i => i.elim0)
  unfold Cert.Pre_inputs_in_range.fn Cert.Pre_inputs_in_range.fn_part1 at h0
  dsimp only at h0
  obtain ⟨h0, hf⟩ := IntOp.andi_eq_one.mp h0
  obtain ⟨ht, hl⟩ := IntOp.andi_eq_one.mp h0
  obtain ⟨hq, hk⟩ := IntOp.andi_eq_one.mp hf
  refine ⟨fun b p => ?_, fun b => ?_, fun i => ?_, fun i => ?_⟩
  · have e := Host.reduce_andi_all _ _ _ _ _ ht (ix2 b p)
    have e' := IntOp.cmpi_eq.mp e
    rw [e', shapeCast_apply _ _ _ (ix1 ⟨128 * b.val + p.val, by omega⟩) (by
      rw [Shape.rowMajor_val_two, Shape.rowMajor_val_one]
      show 128 * b.val + p.val = b.val * 128 + p.val
      omega)]
    rfl
  · obtain ⟨a1, a2⟩ := IntOp.andi_eq_one.mp (Host.reduce_andi_all _ _ _ _ _ hl (ix1 b))
    exact le_of_signed _ a1 a2
  · have e := Host.reduce_andi_all _ _ _ _ _ hq i
    have e' : max (x0 i) (-(x0 i)) < (FloatOps.ofBits (F := Ideal) .f32 0x7F800000#32 : EReal) := (cmp_olt_one _ _).mp e
    rw [infinity] at e'
    exact real_of_abs _ e'
  · have e := Host.reduce_andi_all _ _ _ _ _ hk i
    have e' : max (x1 i) (-(x1 i)) < (FloatOps.ofBits (F := Ideal) .f32 0x7F800000#32 : EReal) := (cmp_olt_one _ _).mp e
    rw [infinity] at e'
    exact real_of_abs _ e'

end Cert.Range

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Attend
public import proofs.«01_k».proof.Proof.Word.Frame
public import proofs.«01_k».proof.Proof.Word.Launched
public import proofs.«01_k».proof.Proof.Real.Frame
public import proofs.«01_k».proof.Proof.Real.Launched
public import proofs.«01_k».proof.Proof.Real.Result
public import proofs.«01_k».proof.Proof.Range
public import Idealize.ShloMosaic.Adequacy
public import Idealize.ShloMosaic.Init

@[expose] public section

noncomputable section

namespace Cert.Proof

open Idealize.ShloMosaic Idealize.SL.Sem

/-- The kernel runs and leaves its arguments as they were. -/
theorem frame_k : Cert.quiescent_Kernel := fun m ρ _ => Cert.Kernel.Gen.frame m ρ (Cert.Kernel.Host.ok m)

/-- So does its idealization. -/
theorem frame_ki : Cert.quiescent_KernelIdeal := fun m ρ _ =>
  Cert.KernelIdeal.Gen.frame m ρ (Cert.KernelIdeal.Host.ok m)

/-- So does the idealized reference. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The ledger's one entry: the mask's name has the value minus infinity. -/
theorem preserves : Cert.preserves_Kernel_KernelIdeal :=
  IdealRules.named_const.statement Cert.KernelIdeal.κ "mask" .f32 0xF149F2CA#32 ⊥ rfl

/-- The result of the idealized kernel is the idealized reference's. -/
theorem algebraic : Cert.algebraic_KernelIdeal_ReferenceIdeal_pre_inputs_in_range := by
  intro m g m' g' hpre hargs
  obtain ⟨hT, hL, f0, f1⟩ := Cert.Range.parts _ _ _ _ _ (hpre 0)
  refine ⟨fun c => Cert.KernelIdeal.Body.wanted m c,
    Cert.KernelIdeal.Body.run_value m g hL hT f0 f1 (Cert.KernelIdeal.Host.ok m), ?_⟩
  refine (θ_run Cert.ReferenceIdeal.defs _ _).mono (fun _ h c => ⟨(h c).1.trans ?_, (h c).2⟩)
    (Cert.ReferenceIdeal.Value.run (F := Ideal) m' g')
  obtain ⟨e0, e1, e2, e3, e4⟩ := hargs c
  rw [Cert.ReferenceIdeal.Read.val_main_v62_eq, e0, e1, e2, e3, e4]
  rfl

theorem claim : Cert.Claim := ⟨Cert.Kernel.Gen.facts, Cert.KernelIdeal.Gen.facts, Cert.ReferenceIdeal.Gen.facts,
  Cert.Range.facts, frame_k, frame_ki, fun m ρ _ => frame_ki m ρ trivial, frame_ri, fun m ρ _ => frame_ri m ρ trivial,
  preserves, algebraic⟩

end Cert.Proof

end
